-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain_KernelIdeal [hPre_in_domain_KernelIdeal : Cert.Pre_in_domain_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain_ReferenceIdeal [hPre_in_domain_ReferenceIdeal : Cert.Pre_in_domain_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_domain_KernelIdeal [hKernelIdeal : Cert.KernelIdeal.Facts] [hPre_in_domain_KernelIdeal : Cert.Pre_in_domain_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_domain_ReferenceIdeal [hReferenceIdeal : Cert.ReferenceIdeal.Facts] [hPre_in_domain_ReferenceIdeal : Cert.Pre_in_domain_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_domain_KernelIdeal [hKernelIdeal : Cert.KernelIdeal.Facts] [hReferenceIdeal : Cert.ReferenceIdeal.Facts] [hPre_in_domain_KernelIdeal : Cert.Pre_in_domain_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 8192]⟩ ⟨2, ![1024, 65536]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_domain_KernelIdeal : Cert.Pre_in_domain_KernelIdeal.Facts) (hPre_in_domain_ReferenceIdeal : Cert.Pre_in_domain_ReferenceIdeal.Facts),
    quiescent_Kernel (hKernel := hKernel)
    ∧ quiescent_KernelIdeal (hKernelIdeal := hKernelIdeal)
    ∧ quiescent_KernelIdeal_pre_in_domain_KernelIdeal (hKernelIdeal := hKernelIdeal) (hPre_in_domain_KernelIdeal := hPre_in_domain_KernelIdeal)
    ∧ quiescent_ReferenceIdeal (hReferenceIdeal := hReferenceIdeal)
    ∧ quiescent_ReferenceIdeal_pre_in_domain_ReferenceIdeal (hReferenceIdeal := hReferenceIdeal) (hPre_in_domain_ReferenceIdeal := hPre_in_domain_ReferenceIdeal)
    ∧ preserves_Kernel_KernelIdeal
    ∧ algebraic_KernelIdeal_ReferenceIdeal_pre_in_domain_KernelIdeal (hKernelIdeal := hKernelIdeal) (hReferenceIdeal := hReferenceIdeal) (hPre_in_domain_KernelIdeal := hPre_in_domain_KernelIdeal)
-- ==== Pre_in_domain_KernelIdeal.lean ====
abbrev S512x1024 : Shape := ⟨2, ![512, 1024]⟩
abbrev S1024x8192 : Shape := ⟨2, ![1024, 8192]⟩
abbrev S1x512 : Shape := ⟨2, ![1, 512]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S512x1024 .f32) (main_arg1 : FVec F S1024x8192 .f32) (main_arg2 : IVec S1x512 32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_c_2 : IVec S_ 32 := constantI S_ 32 0#32
  let main_v9 : IVec S1x512 32 := broadcastInDim S1x512 ![] bcast_S_S1x512 main_c_2
  let main_v10 : IVec S1x512 1 := cmpi .sge main_arg2 main_v9
  let main_c_3 : IVec S_ 32 := constantI S_ 32 65536#32
  let main_v11 : IVec S1x512 32 := broadcastInDim S1x512 ![] bcast_S_S1x512 main_c_3
  let main_v12 : IVec S1x512 1 := cmpi .slt main_arg2 main_v11
  let main_v13 : IVec S1x512 1 := andi main_v10 main_v12
  let main_c_4 : IVec S_ 1 := constantI S_ 1 1#1
  let main_v14 : IVec S_ 1 := (fun x v => Host.reduce IntOp.andi x v reducesTo_S1x512_S_d0_1 h_S_) main_v13 main_c_4
  let main_v15 : IVec S_ 1 := andi main_v8 main_v14
  main_v15
-- ==== Pre_in_domain_ReferenceIdeal.lean ====
abbrev S512x1024 : Shape := ⟨2, ![512, 1024]⟩
abbrev S1024x65536 : Shape := ⟨2, ![1024, 65536]⟩
abbrev S1x512 : Shape := ⟨2, ![1, 512]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x65536 : S_.BroadcastsInDim S1024x65536 (![] : Fin 0 → Fin S1024x65536.rank)
  reducesTo_S1024x65536_S_d0_1 : S1024x65536.ReducesTo [0, 1] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S512x1024 .f32) (main_arg1 : FVec F S1024x65536 .f32) (main_arg2 : IVec S1x512 32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x65536 .f32 := Host.absf main_arg1
  let main_cst_0 : FVec F S_ .f32 := constant S_ .f32 0x7F800000#32
  let main_v5 : FVec F S1024x65536 .f32 := broadcastInDim S1024x65536 ![] bcast_S_S1024x65536 main_cst_0
  let main_v6 : IVec S1024x65536 1 := cmpf .olt main_v4 main_v5
  let main_c_1 : IVec S_ 1 := constantI S_ 1 1#1
  let main_v7 : IVec S_ 1 := (fun x v => Host.reduce IntOp.andi x v reducesTo_S1024x65536_S_d0_1 h_S_) main_v6 main_c_1
  let main_v8 : IVec S_ 1 := andi main_v3 main_v7
  let main_c_2 : IVec S_ 32 := constantI S_ 32 0#32
  let main_v9 : IVec S1x512 32 := broadcastInDim S1x512 ![] bcast_S_S1x512 main_c_2
  let main_v10 : IVec S1x512 1 := cmpi .sge main_arg2 main_v9
  let main_c_3 : IVec S_ 32 := constantI S_ 32 65536#32
  let main_v11 : IVec S1x512 32 := broadcastInDim S1x512 ![] bcast_S_S1x512 main_c_3
  let main_v12 : IVec S1x512 1 := cmpi .slt main_arg2 main_v11
  let main_v13 : IVec S1x512 1 := andi main_v10 main_v12
  let main_c_4 : IVec S_ 1 := constantI S_ 1 1#1
  let main_v14 : IVec S_ 1 := (fun x v => Host.reduce IntOp.andi x v reducesTo_S1x512_S_d0_1 h_S_) main_v13 main_c_4
  let main_v15 : IVec S_ 1 := andi main_v8 main_v14
  main_v15
-- ==== Kernel.lean ====
abbrev S512x1024 : Shape := ⟨2, ![512, 1024]⟩
abbrev S1024x8192 : Shape := ⟨2, ![1024, 8192]⟩
abbrev S1x512 : Shape := ⟨2, ![1, 512]⟩
abbrev S8x1024x1024 : Shape := ⟨3, ![8, 1024, 1024]⟩
abbrev S1x2x512 : Shape := ⟨3, ![1, 2, 512]⟩
abbrev S8x2x512 : Shape := ⟨3, ![8, 2, 512]⟩
abbrev S8x4 : Shape := ⟨2, ![8, 4]⟩
abbrev S8 : Shape := ⟨1, ![8]⟩
abbrev S_ : Shape := ⟨0, ![]⟩
abbrev S1x1 : Shape := ⟨2, ![1, 1]⟩
abbrev S1x256x1024 : Shape := ⟨3, ![1, 256, 1024]⟩
abbrev S256x1024 : Shape := ⟨2, ![256, 1024]⟩
abbrev S512 : Shape := ⟨1, ![512]⟩
abbrev S1x1024x1024 : Shape := ⟨3, ![1, 1024, 1024]⟩
abbrev S1024x1024 : Shape := ⟨2, ![1024, 1024]⟩
abbrev S512x1 : Shape := ⟨2, ![512, 1]⟩
abbrev S2x512 : Shape := ⟨2, ![2, 512]⟩
abbrev S1 : Shape := ⟨1, ![1]⟩
abbrev S8x1x512 : Shape := ⟨3, ![8, 1, 512]⟩
abbrev S8x512 : Shape := ⟨2, ![8, 512]⟩

abbrev nBuf : Space → Nat
  | .hbm => 4
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S1x512, .i32⟩
  | .hbm, ⟨3, _⟩ => ⟨S1x512, .f32⟩
  | .local _ .vmem, ⟨0, _⟩ => ⟨S512x1024, .f32⟩
  | .local _ .vmem, ⟨1, _⟩ => ⟨S1x512, .i32⟩
  | .local _ .vmem, ⟨2, _⟩ => ⟨S1x512, .f32⟩
  | .local _ .vmem, ⟨3, _⟩ => ⟨S8x1024x1024, .f32⟩
  | .local _ .vmem, ⟨4, _⟩ => ⟨S1x2x512, .f32⟩
  | .local _ .vmem, ⟨5, _⟩ => ⟨S8x2x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_581 : BitVec 32 := 0#32
  let c0_i32_582 : BitVec 32 := 0#32
  ![v2.toNat, 0, 0]
def k0_dev8 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_571 : BitVec 32 := 1#32
  let v569 : BitVec 32 := Scalar.addi v2 c1_i32_571
  let c8_i32_572 : BitVec 32 := 8#32
  let c0_i32_573 : BitVec 32 := 0#32
  let v570 : BitVec 1 := Scalar.cmpi .eq c8_i32_572 c0_i32_573
  let c1_i32_574 : BitVec 32 := 1#32
  let v571 : BitVec 32 := Scalar.select v570 c1_i32_574 c8_i32_572
  let v572 : BitVec 32 := Scalar.remsi v569 v571
  let c0_i32_576 : BitVec 32 := 0#32
  let v574 : BitVec 1 := Scalar.cmpi .slt v572 c0_i32_576
  let c0_i32_577 : BitVec 32 := 0#32
  let v575 : BitVec 1 := Scalar.cmpi .slt v571 c0_i32_577
  let v576 : BitVec 1 := Scalar.xori v574 v575
  let c0_i32_575 : BitVec 32 := 0#32
  let v573 : BitVec 1 := Scalar.cmpi .ne v572 c0_i32_575
  let v577 : BitVec 1 := Scalar.andi v576 v573
  let v578 : BitVec 32 := Scalar.addi v572 v571
  let v579 : BitVec 32 := Scalar.select v577 v578 v572
  let c1_i32_579 : BitVec 32 := 1#32
  let v580 : BitVec 32 := Scalar.muli v579 c1_i32_579
  let v581 : BitVec 32 := Scalar.addi c0_i32_580 v580
  v581.toNat
def k0_dev9 (d0 : Dev nD) : Nat :=
  let c0_i32_592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_583 : BitVec 32 := 2#32
  let v587 : BitVec 32 := Scalar.addi v2 c2_i32_583
  let c8_i32_584 : BitVec 32 := 8#32
  let c0_i32_585 : BitVec 32 := 0#32
  let v588 : BitVec 1 := Scalar.cmpi .eq c8_i32_584 c0_i32_585
  let c1_i32_586 : BitVec 32 := 1#32
  let v589 : BitVec 32 := Scalar.select v588 c1_i32_586 c8_i32_584
  let v590 : BitVec 32 := Scalar.remsi v587 v589
  let c0_i32_588 : BitVec 32 := 0#32
  let v592 : BitVec 1 := Scalar.cmpi .slt v590 c0_i32_588
  let c0_i32_589 : BitVec 32 := 0#32
  let v593 : BitVec 1 := Scalar.cmpi .slt v589 c0_i32_589
  let v594 : BitVec 1 := Scalar.xori v592 v593
  let c0_i32_587 : BitVec 32 := 0#32
  let v591 : BitVec 1 := Scalar.cmpi .ne v590 c0_i32_587
  let v595 : BitVec 1 := Scalar.andi v594 v591
  let v596 : BitVec 32 := Scalar.addi v590 v589
  let v597 : BitVec 32 := Scalar.select v595 v596 v590
  let c1_i32_591 : BitVec 32 := 1#32
  let v598 : BitVec 32 := Scalar.muli v597 c1_i32_591
  let v599 : BitVec 32 := Scalar.addi c0_i32_592 v598
  v599.toNat
def k0_dev10 (d0 : Dev nD) : Nat :=
  let c0_i32_604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_595 : BitVec 32 := 3#32
  let v605 : BitVec 32 := Scalar.addi v2 c3_i32_595
  let c8_i32_596 : BitVec 32 := 8#32
  let c0_i32_597 : BitVec 32 := 0#32
  let v606 : BitVec 1 := Scalar.cmpi .eq c8_i32_596 c0_i32_597
  let c1_i32_598 : BitVec 32 := 1#32
  let v607 : BitVec 32 := Scalar.select v606 c1_i32_598 c8_i32_596
  let v608 : BitVec 32 := Scalar.remsi v605 v607
  let c0_i32_600 : BitVec 32 := 0#32
  let v610 : BitVec 1 := Scalar.cmpi .slt v608 c0_i32_600
  let c0_i32_601 : BitVec 32 := 0#32
  let v611 : BitVec 1 := Scalar.cmpi .slt v607 c0_i32_601
  let v612 : BitVec 1 := Scalar.xori v610 v611
  let c0_i32_599 : BitVec 32 := 0#32
  let v609 : BitVec 1 := Scalar.cmpi .ne v608 c0_i32_599
  let v613 : BitVec 1 := Scalar.andi v612 v609
  let v614 : BitVec 32 := Scalar.addi v608 v607
  let v615 : BitVec 32 := Scalar.select v613 v614 v608
  let c1_i32_603 : BitVec 32 := 1#32
  let v616 : BitVec 32 := Scalar.muli v615 c1_i32_603
  let v617 : BitVec 32 := Scalar.addi c0_i32_604 v616
  v617.toNat
def k0_dev11 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_607 : BitVec 32 := 4#32
  let v623 : BitVec 32 := Scalar.addi v2 c4_i32_607
  let c8_i32_608 : BitVec 32 := 8#32
  let c0_i32_609 : BitVec 32 := 0#32
  let v624 : BitVec 1 := Scalar.cmpi .eq c8_i32_608 c0_i32_609
  let c1_i32_610 : BitVec 32 := 1#32
  let v625 : BitVec 32 := Scalar.select v624 c1_i32_610 c8_i32_608
  let v626 : BitVec 32 := Scalar.remsi v623 v625
  let c0_i32_612 : BitVec 32 := 0#32
  let v628 : BitVec 1 := Scalar.cmpi .slt v626 c0_i32_612
  let c0_i32_613 : BitVec 32 := 0#32
  let v629 : BitVec 1 := Scalar.cmpi .slt v625 c0_i32_613
  let v630 : BitVec 1 := Scalar.xori v628 v629
  let c0_i32_611 : BitVec 32 := 0#32
  let v627 : BitVec 1 := Scalar.cmpi .ne v626 c0_i32_611
  let v631 : BitVec 1 := Scalar.andi v630 v627
  let v632 : BitVec 32 := Scalar.addi v626 v625
  let v633 : BitVec 32 := Scalar.select v631 v632 v626
  let c1_i32_615 : BitVec 32 := 1#32
  let v634 : BitVec 32 := Scalar.muli v633 c1_i32_615
  let v635 : BitVec 32 := Scalar.addi c0_i32_616 v634
  v635.toNat
def k0_dev12 (d0 : Dev nD) : Nat :=
  let c0_i32_628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_619 : BitVec 32 := 5#32
  let v641 : BitVec 32 := Scalar.addi v2 c5_i32_619
  let c8_i32_620 : BitVec 32 := 8#32
  let c0_i32_621 : BitVec 32 := 0#32
  let v642 : BitVec 1 := Scalar.cmpi .eq c8_i32_620 c0_i32_621
  let c1_i32_622 : BitVec 32 := 1#32
  let v643 : BitVec 32 := Scalar.select v642 c1_i32_622 c8_i32_620
  let v644 : BitVec 32 := Scalar.remsi v641 v643
  let c0_i32_624 : BitVec 32 := 0#32
  let v646 : BitVec 1 := Scalar.cmpi .slt v644 c0_i32_624
  let c0_i32_625 : BitVec 32 := 0#32
  let v647 : BitVec 1 := Scalar.cmpi .slt v643 c0_i32_625
  let v648 : BitVec 1 := Scalar.xori v646 v647
  let c0_i32_623 : BitVec 32 := 0#32
  let v645 : BitVec 1 := Scalar.cmpi .ne v644 c0_i32_623
  let v649 : BitVec 1 := Scalar.andi v648 v645
  let v650 : BitVec 32 := Scalar.addi v644 v643
  let v651 : BitVec 32 := Scalar.select v649 v650 v644
  let c1_i32_627 : BitVec 32 := 1#32
  let v652 : BitVec 32 := Scalar.muli v651 c1_i32_627
  let v653 : BitVec 32 := Scalar.addi c0_i32_628 v652
  v653.toNat
def k0_dev13 (d0 : Dev nD) : Nat :=
  let c0_i32_640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_631 : BitVec 32 := 6#32
  let v659 : BitVec 32 := Scalar.addi v2 c6_i32_631
  let c8_i32_632 : BitVec 32 := 8#32
  let c0_i32_633 : BitVec 32 := 0#32
  let v660 : BitVec 1 := Scalar.cmpi .eq c8_i32_632 c0_i32_633
  let c1_i32_634 : BitVec 32 := 1#32
  let v661 : BitVec 32 := Scalar.select v660 c1_i32_634 c8_i32_632
  let v662 : BitVec 32 := Scalar.remsi v659 v661
  let c0_i32_636 : BitVec 32 := 0#32
  let v664 : BitVec 1 := Scalar.cmpi .slt v662 c0_i32_636
  let c0_i32_637 : BitVec 32 := 0#32
  let v665 : BitVec 1 := Scalar.cmpi .slt v661 c0_i32_637
  let v666 : BitVec 1 := Scalar.xori v664 v665
  let c0_i32_635 : BitVec 32 := 0#32
  let v663 : BitVec 1 := Scalar.cmpi .ne v662 c0_i32_635
  let v667 : BitVec 1 := Scalar.andi v666 v663
  let v668 : BitVec 32 := Scalar.addi v662 v661
  let v669 : BitVec 32 := Scalar.select v667 v668 v662
  let c1_i32_639 : BitVec 32 := 1#32
  let v670 : BitVec 32 := Scalar.muli v669 c1_i32_639
  let v671 : BitVec 32 := Scalar.addi c0_i32_640 v670
  v671.toNat
def k0_dev14 (d0 : Dev nD) : Nat :=
  let c0_i32_652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_643 : BitVec 32 := 7#32
  let v677 : BitVec 32 := Scalar.addi v2 c7_i32_643
  let c8_i32_644 : BitVec 32 := 8#32
  let c0_i32_645 : BitVec 32 := 0#32
  let v678 : BitVec 1 := Scalar.cmpi .eq c8_i32_644 c0_i32_645
  let c1_i32_646 : BitVec 32 := 1#32
  let v679 : BitVec 32 := Scalar.select v678 c1_i32_646 c8_i32_644
  let v680 : BitVec 32 := Scalar.remsi v677 v679
  let c0_i32_648 : BitVec 32 := 0#32
  let v682 : BitVec 1 := Scalar.cmpi .slt v680 c0_i32_648
  let c0_i32_649 : BitVec 32 := 0#32
  let v683 : BitVec 1 := Scalar.cmpi .slt v679 c0_i32_649
  let v684 : BitVec 1 := Scalar.xori v682 v683
  let c0_i32_647 : BitVec 32 := 0#32
  let v681 : BitVec 1 := Scalar.cmpi .ne v680 c0_i32_647
  let v685 : BitVec 1 := Scalar.andi v684 v681
  let v686 : BitVec 32 := Scalar.addi v680 v679
  let v687 : BitVec 32 := Scalar.select v685 v686 v680
  let c1_i32_651 : BitVec 32 := 1#32
  let v688 : BitVec 32 := Scalar.muli v687 c1_i32_651
  let v689 : BitVec 32 := Scalar.addi c0_i32_652 v688
  v689.toNat
def k0_off3 (d0 : Dev nD) (c1_i32_655 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v695 : BitVec 32 := Scalar.addi v2 c1_i32_655
  let c8_i32_656 : BitVec 32 := 8#32
  let c0_i32_657 : BitVec 32 := 0#32
  let v696 : BitVec 1 := Scalar.cmpi .eq c8_i32_656 c0_i32_657
  let c1_i32_658 : BitVec 32 := 1#32
  let v697 : BitVec 32 := Scalar.select v696 c1_i32_658 c8_i32_656
  let v698 : BitVec 32 := Scalar.remsi v695 v697
  let c0_i32_660 : BitVec 32 := 0#32
  let v700 : BitVec 1 := Scalar.cmpi .slt v698 c0_i32_660
  let c0_i32_661 : BitVec 32 := 0#32
  let v701 : BitVec 1 := Scalar.cmpi .slt v697 c0_i32_661
  let v702 : BitVec 1 := Scalar.xori v700 v701
  let c0_i32_659 : BitVec 32 := 0#32
  let v699 : BitVec 1 := Scalar.cmpi .ne v698 c0_i32_659
  let v703 : BitVec 1 := Scalar.andi v702 v699
  let v704 : BitVec 32 := Scalar.addi v698 v697
  let v705 : BitVec 32 := Scalar.select v703 v704 v698
  ![v705.toNat]
def k0_off4 (d0 : Dev nD) (c1_i32_655 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v695 : BitVec 32 := Scalar.addi v2 c1_i32_655
  let c8_i32_656 : BitVec 32 := 8#32
  let c0_i32_657 : BitVec 32 := 0#32
  let v696 : BitVec 1 := Scalar.cmpi .eq c8_i32_656 c0_i32_657
  let c1_i32_658 : BitVec 32 := 1#32
  let v697 : BitVec 32 := Scalar.select v696 c1_i32_658 c8_i32_656
  let v698 : BitVec 32 := Scalar.remsi v695 v697
  let c0_i32_660 : BitVec 32 := 0#32
  let v700 : BitVec 1 := Scalar.cmpi .slt v698 c0_i32_660
  let c0_i32_661 : BitVec 32 := 0#32
  let v701 : BitVec 1 := Scalar.cmpi .slt v697 c0_i32_661
  let v702 : BitVec 1 := Scalar.xori v700 v701
  let c0_i32_659 : BitVec 32 := 0#32
  let v699 : BitVec 1 := Scalar.cmpi .ne v698 c0_i32_659
  let v703 : BitVec 1 := Scalar.andi v702 v699
  let v704 : BitVec 32 := Scalar.addi v698 v697
  let v705 : BitVec 32 := Scalar.select v703 v704 v698
  let c0_i32_665 : BitVec 32 := 0#32
  let c0_i32_666 : BitVec 32 := 0#32
  ![v705.toNat, 0, 0]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1024 : Shape := ⟨2, ![512, 1024]⟩
abbrev S1024x65536 : Shape := ⟨2, ![1024, 65536]⟩
abbrev S1x512 : Shape := ⟨2, ![1, 512]⟩
abbrev S512x65536 : Shape := ⟨2, ![512, 65536]⟩
abbrev S_ : Shape := ⟨0, ![]⟩
abbrev S512 : Shape := ⟨1, ![512]⟩
abbrev S512x1 : Shape := ⟨2, ![512, 1]⟩
abbrev S512x2 : Shape := ⟨2, ![512, 2]⟩

abbrev nBuf : Space → Nat
  | .hbm => 38
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x65536, .f32⟩
  | .hbm, ⟨2, _⟩ => ⟨S1x512, .i32⟩
  | .hbm, ⟨3, _⟩ => ⟨S512x65536, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x65536, .f32⟩
  | .hbm, ⟨8, _⟩ => ⟨S512x65536, .f32⟩
  | .hbm, ⟨9, _⟩ => ⟨S512x65536, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512, .f32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S512x1, .i32⟩
  | .hbm, ⟨34, _⟩ => ⟨S512x2, .i32⟩
  | .hbm, ⟨35, _⟩ => ⟨S512, .f32⟩
  | .hbm, ⟨36, _⟩ => ⟨S512, .f32⟩
  | .hbm, ⟨37, _⟩ => ⟨S1x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Loops.lean ====
/-
The kernel body with its unrolled stretches written as runs over lists: the seven barrier signals, the
thirty-two local copies, the eight chunks, the seven transfers and the fourteen waits. `body_eq` says that the
printed body is this program; everything about the run is proved of the lists.
-/
module

public import proofs.«01_k».proof.Proof.Gen.KernelIdeal
public import proofs.«01_k».proof.Proof.Gen.KernelIdeal.Skeleton

@[expose] public section

noncomputable section

namespace Cert.Run

open Cert.KernelIdeal Cert.KernelIdeal.Gen
open Idealize.ShloMosaic Idealize.ShloMosaic.TcCoe
open Idealize.SL Idealize.SL.Sem

variable {F : FTy → Type} [FloatOps F]

/-! ## Buffers and semaphores -/

/-- The staged `x`, the staged labels, the staged result, `W` in HBM. -/
abbrev xM : Memref sig .tc .vmem S512x1024 .f32 := Memref.whole cc0_stg0_0
abbrev labM : Memref sig .tc .vmem S1x512 .i32 := Memref.whole cc0_stg1_0
abbrev outM : Memref sig .tc .vmem S1x512 .f32 := Memref.whole cc0_stg2_0
abbrev wM : Memref sig .tc .hbm S1024x8192 .f32 := Memref.whole main_arg1
/-- The buffer the chunks of `W` land in, the device's own pair of sums, the pairs of all devices. -/
abbrev wbM : Memref sig .tc .vmem S8x1024x1024 .f32 := Memref.whole cc0_scratch0
abbrev ownM : Memref sig .tc .vmem S1x2x512 .f32 := Memref.whole cc0_scratch1
abbrev allM : Memref sig .tc .vmem S8x2x512 .f32 := Memref.whole cc0_scratch2

abbrev barS : Sem sig := (SemArray.scalar (sig.barrier 0 rfl) : Sems sig S_).sem

theorem piece_inb (j : Fin 8) (s : Fin 4) : ∀ a, (![j.val, 256 * s.val, 0] : Fin 3 → Nat) a + S1x256x1024.size a ≤ S8x1024x1024.size a := by
  revert j s; decide +kernel
theorem src_inb (j : Fin 8) (s : Fin 4) : ∀ a, (![256 * s.val, 1024 * j.val] : Fin 2 → Nat) a + S256x1024.size a ≤ S1024x8192.size a := by
  revert j s; decide +kernel
theorem chunk_inb (j : Fin 8) : ∀ a, (![j.val, 0, 0] : Fin 3 → Nat) a + S1x1024x1024.size a ≤ S8x1024x1024.size a := by
  revert j; decide +kernel
theorem lsem_inb (j : Fin 8) (s : Fin 4) : ∀ a, (![j.val, s.val] : Fin 2 → Nat) a + S1x1.size a ≤ S8x4.size a := by
  revert j s; decide +kernel
theorem ssem_inb (d : Fin 8) : ∀ a, (![d.val] : Fin 1 → Nat) a + S1.size a ≤ S8.size a := by
  revert d; decide +kernel

/-- Rows `256 s` to `256 s + 255` of chunk `j`: where they land, where they come from, and the semaphore. -/
abbrev pieceM (j : Fin 8) (s : Fin 4) : Memref sig .tc .vmem S256x1024 .f32 :=
  (wbM.slice (Rect.unit (s := S8x1024x1024) ![j.val, 256 * s.val, 0] S1x256x1024.size (piece_inb j s)) (fun _ => rfl)).squeeze
    S256x1024 squeezes_S1x256x1024_S256x1024
abbrev srcM (j : Fin 8) (s : Fin 4) : Memref sig .tc .hbm S256x1024 .f32 :=
  wM.slice (Rect.unit (s := S1024x8192) ![256 * s.val, 1024 * j.val] S256x1024.size (src_inb j s)) (fun _ => rfl)
abbrev localS (j : Fin 8) (s : Fin 4) : DmaSem sig :=
  ((cc0_scratch3.slice (Rect.unit (s := S8x4) ![j.val, s.val] S1x1.size (lsem_inb j s))).squeeze S_ squeezes_S1x1_S_).sem
/-- The rectangle of chunk `j`. -/
abbrev chunkR (j : Fin 8) : Rect S8x1024x1024 := Rect.unit (s := S8x1024x1024) ![j.val, 0, 0] S1x1024x1024.size (chunk_inb j)

/-- The send semaphore of the transfer `d` devices on; the receive semaphore the device's own transfers complete
    on, at their targets; the row they land in. -/
abbrev sendSm (d : Fin 8) : DmaSem sig :=
  ((cc0_scratch4.slice (Rect.unit (s := S8) ![d.val] S1.size (ssem_inb d))).squeeze S_ squeezes_S1_S_).sem
abbrev landSm (c : Dev nD) : DmaSem sig :=
  ((cc0_scratch5.slice (Rect.unit (s := S8) (k0_off1 c) S1.size (k0_off1_inb c))).squeeze S_ squeezes_S1_S_).sem
abbrev landM (c : Dev nD) : Memref sig .tc .vmem S1x2x512 .f32 :=
  allM.slice (Rect.unit (s := S8x2x512) (k0_off2 c) S1x2x512.size (k0_off2_inb c)) (fun _ => rfl)
/-- The semaphore and the row of what the device `r + 1` on sends here. -/
abbrev fromSm (c : Dev nD) (r : Fin 7) : DmaSem sig :=
  ((cc0_scratch5.slice (Rect.unit (s := S8) (k0_off3 c (BitVec.ofNat 32 (1 + r.val))) S1.size (k0_off3_inb c r))).squeeze S_ squeezes_S1_S_).sem
abbrev fromM (c : Dev nD) (r : Fin 7) : Memref sig .tc .vmem S1x2x512 .f32 :=
  allM.slice (Rect.unit (s := S8x2x512) (k0_off4 c (BitVec.ofNat 32 (1 + r.val))) S1x2x512.size (k0_off4_inb c r)) (fun _ => rfl)

/-! ## What the body computes -/

/-- The logits of one chunk. -/
def logits (x : FVec F S512x1024 .f32) (w : Vec F S1x1024x1024 .f32) : FVec F S512x1024 .f32 :=
  matmul dot_S512x1024_S1024x1024_S512x1024_1_0_0_1_n_n none x (shapeCast S1024x1024 w shapeCasts_S1x1024x1024_S1024x1024)
    (constant S512x1024 .f32 0x00000000#32)
/-- The sum of the exponentials of one chunk's logits, row by row. -/
def expSum (x : FVec F S512x1024 .f32) (w : Vec F S1x1024x1024 .f32) : FVec F S512 .f32 :=
  multiReduction .add [1] S512 (exp (logits x w)) 0x00000000#32 reduces_S512x1024_S512 (.inl rfl) rfl
/-- The logit at the row's label, if the label lies in chunk `j` of this device; zero else. -/
def hitSum (v2 : BitVec 32) (x : FVec F S512x1024 .f32) (lab : IVec S512 32) (j : Fin 8) (w : Vec F S1x1024x1024 .f32) : FVec F S512 .f32 :=
  multiReduction .add [1] S512
    (select
      (cmpi .eq (iota .tc S512x1024 32 [1] iota_S512x1024_d1_w32)
        (broadcastTo S512x1024
          (shapeCast S512x1
            (subi (subi lab (broadcast S512 (Scalar.muli v2 8192#32))) (broadcast S512 (BitVec.ofNat 32 (1024 * j.val))))
            shapeCasts_S512_S512x1)
          broadcasts_S512x1_S512x1024))
      (logits x w) (broadcast S512x1024 (Scalar.ofBits .f32 0x00000000#32)))
    0x00000000#32 reduces_S512x1024_S512 (.inl rfl) rfl

/-- The two sums stacked. -/
def pair (a b : FVec F S512 .f32) : FVec F S1x2x512 .f32 :=
  shapeCast S1x2x512
    (shapeCast S1x2x512
      (concatenate S2x512 0 [⟨S1x512, shapeCast S1x512 a shapeCasts_S512_S1x512⟩, ⟨S1x512, shapeCast S1x512 b shapeCasts_S512_S1x512⟩]
        concatenates_S1x512_S1x512_S2x512_d0)
      shapeCasts_S2x512_S1x2x512)
    shapeCasts_S1x2x512_S1x2x512

/-- The device's own logical id, as the body computes it. -/
abbrev idw (c : Dev nD) : BitVec 32 := Scalar.remsi (Scalar.divsi (Dev.word c) 1#32) 8#32

/-- One more chunk added to the running sums. -/
def addChunk (c : Dev nD) (x : FVec F S512x1024 .f32) (lab : IVec S512 32) (j : Fin 8) (w : Vec F S1x1024x1024 .f32)
    (a : FVec F S512 .f32 × FVec F S512 .f32) : FVec F S512 .f32 × FVec F S512 .f32 :=
  (addf a.1 (expSum x w), addf a.2 (hitSum (idw c) x lab j w))

/-- The result out of the pairs of all devices. -/
def final (c : Dev nD) (all : Vec F S8x2x512 .f32) (own : Vec F S1x2x512 .f32) : FVec F S1x512 .f32 :=
  k0_pay1 (k0_pay33 (idw c) all own) (k0_pay34 (idw c) all own)

/-! ## The program -/

variable (F) in
abbrev Pg : Type 1 := Prog (TpuEff nD τ sig (Elt F) Λ₀ .tc) PUnit

def signals (k : Pg F) : List (Dev nD) → Pg F
  | [] => k
  | p :: l => .op (.semSignal (Dev.tc p) barS (1#32 : BitVec 32).toInt) fun _ => signals k l

def starts (k : Pg F) : List (Fin 8 × Fin 4) → Pg F
  | [] => k
  | p :: l => .op (.enqueueDma (srcM p.1 p.2) (.here (pieceM p.1 p.2)) (.dma (localS p.1 p.2)) (View.wordExact_bits rfl)
      ((View.wordExact_bits rfl).reshape _ _) ⟨Or.inl rfl, trivial⟩) fun _ => starts k l

def pieceWaits (j : Fin 8) (k : Pg F) : List (Fin 4) → Pg F
  | [] => k
  | s :: l => .op (.waitDma2 (localS j s) (srcM j s) (pieceM j s) (View.wordExact_bits rfl) ((View.wordExact_bits rfl).reshape _ _))
      fun _ => pieceWaits j k l

/-- Wait for a chunk's four pieces and load it. -/
def chunk (j : Fin 8) (k : Vec F S1x1024x1024 .f32 → Pg F) : Pg F :=
  pieceWaits j (.op (.load wbM (chunkR j).toLoadRect (View.loadsAt_vmem h_S1x1024x1024)) k) [0, 1, 2, 3]

def chunks (c : Dev nD) (x : FVec F S512x1024 .f32) (lab : IVec S512 32) (k : FVec F S512 .f32 × FVec F S512 .f32 → Pg F) :
    List (Fin 8) → FVec F S512 .f32 × FVec F S512 .f32 → Pg F
  | [], a => k a
  | j :: l, a => chunk j fun w => chunks c x lab k l (addChunk c x lab j w a)

def sends (c : Dev nD) (k : Pg F) : List (Dev nD × Fin 8) → Pg F
  | [] => k
  | p :: l => .op (.enqueueDma ownM (.remote (Dev.tc p.1) (landM c) (.dma (sendSm p.2))) (.dma (landSm c)) (Memref.isWhole_whole _).wordExact
      (View.wordExact_bits rfl) ⟨⟨rfl, Or.inl rfl⟩, trivial⟩) fun _ => sends c k l

def recvWaits (c : Dev nD) (k : Pg F) : List (Fin 7) → Pg F
  | [] => k
  | r :: l => .op (.waitDma2 (fromSm c r) ownM (fromM c r) (Memref.isWhole_whole _).wordExact (View.wordExact_bits rfl)) fun _ => recvWaits c k l

def sendWaits (c : Dev nD) (k : Pg F) : List (Fin 8) → Pg F
  | [] => k
  | d :: l => .op (.waitDma2 (sendSm d) (landM c) ownM (View.wordExact_bits rfl) (Memref.isWhole_whole _).wordExact) fun _ => sendWaits c k l

/-- The devices signalled, in order; the devices sent to, with the send semaphore, in order. -/
def peers (c : Dev nD) : List (Dev nD) :=
  [⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
def targets (c : Dev nD) : List (Dev nD × Fin 8) :=
  [(⟨k0_dev8 c, k0_dev8_lt c⟩, 1), (⟨k0_dev9 c, k0_dev9_lt c⟩, 2), (⟨k0_dev10 c, k0_dev10_lt c⟩, 3), (⟨k0_dev11 c, k0_dev11_lt c⟩, 4),
    (⟨k0_dev12 c, k0_dev12_lt c⟩, 5), (⟨k0_dev13 c, k0_dev13_lt c⟩, 6), (⟨k0_dev14 c, k0_dev14_lt c⟩, 7)]
def pieces : List (Fin 8 × Fin 4) :=
  [(0, 0), (0, 1), (0, 2), (0, 3), (1, 0), (1, 1), (1, 2), (1, 3), (2, 0), (2, 1), (2, 2), (2, 3), (3, 0), (3, 1), (3, 2), (3, 3),
    (4, 0), (4, 1), (4, 2), (4, 3), (5, 0), (5, 1), (5, 2), (5, 3), (6, 0), (6, 1), (6, 2), (6, 3), (7, 0), (7, 1), (7, 2), (7, 3)]

abbrev rX : Rect S512x1024 := Rect.unit (s := S512x1024) ![0, 0] S512x1024.size inb_S512x1024_S512x1024_0_0
abbrev rRow : Rect S1x512 := Rect.unit (s := S1x512) ![0, 0] S1x512.size inb_S1x512_S1x512_0_0
abbrev rOwn : Rect S1x2x512 := Rect.unit (s := S1x2x512) ![0, 0, 0] S1x2x512.size inb_S1x2x512_S1x2x512_0_0_0
abbrev rAll : Rect S8x2x512 := Rect.unit (s := S8x2x512) ![0, 0, 0] S8x2x512.size inb_S8x2x512_S8x2x512_0_0_0

/-- From the receive waits on. -/
def collect (c : Dev nD) : Pg F :=
  recvWaits c (sendWaits c
    (.op (.load allM rAll.toLoadRect (View.loadsAt_vmem h_S8x2x512)) fun all =>
      .op (.load ownM rOwn.toLoadRect (View.loadsAt_vmem h_S1x2x512)) fun own =>
      .op (.load outM rRow.toLoadRect (View.loadsAt_vmem h_S1x512)) fun _ =>
      .op (.store outM rRow (final c all own) Finset.univ (View.stores_vmem_bits_univ h_S1x512 rfl) (.inl rfl)) fun _ => .ret ⟨⟩)
    [1, 2, 3, 4, 5, 6, 7]) [0, 1, 2, 3, 4, 5, 6]

/-- From the store of the device's own pair on. -/
def exchange (c : Dev nD) (a : FVec F S512 .f32 × FVec F S512 .f32) : Pg F :=
  .op (.load ownM rOwn.toLoadRect (View.loadsAt_vmem h_S1x2x512)) fun _ =>
  .op (.store ownM rOwn (pair a.1 a.2) Finset.univ (View.stores_vmem_bits_univ h_S1x2x512 rfl) (.inl rfl)) fun _ =>
  .op (.semWait barS (7#32 : BitVec 32).toInt) fun _ => sends c (collect c) (targets c)

/-- The device's whole program. -/
def prog (c : Dev nD) : Pg F :=
  signals (starts
    (.op (.load xM rX.toLoadRect (View.loadsAt_vmem h_S512x1024)) fun x =>
      .op (.load labM rRow.toLoadRect (View.loadsAt_vmem h_S1x512)) fun lab =>
      chunk 0 fun w => chunks c (k0_pay2 x) (k0_pay3 lab) (exchange c) [1, 2, 3, 4, 5, 6, 7]
        (expSum (k0_pay2 x) w, hitSum (idw c) (k0_pay2 x) (k0_pay3 lab) 0 w))
    pieces) (peers c)

set_option maxRecDepth 65536 in
set_option maxHeartbeats 4000000 in
theorem body_eq :
    cc0_body (F := F) xM (Memref.isWhole_whole _) wM (Memref.isWhole_whole _) labM (Memref.isWhole_whole _) outM (Memref.isWhole_whole _)
      wbM (Memref.isWhole_whole _) ownM (Memref.isWhole_whole _) allM (Memref.isWhole_whole _) cc0_scratch3 cc0_scratch4 cc0_scratch5
      = .op .deviceId prog := by
  rw [cc0_body_eq_skeleton]
  rfl

end Cert.Run

end
-- ==== Proof.Data.lean ====
/-
Where the pieces of the buffers lie and what they hold: the thirty-two pieces of `W` and of the buffer they land
in, the eight rows of the buffer the pairs of sums land in, and the numbers the program computes its devices and
semaphores from.
-/
module

public import proofs.«01_k».proof.Proof.Loops
public import Idealize.ShloMosaic.Lib.ValueLayout

@[expose] public section

noncomputable section

namespace Cert.Run

open Cert.KernelIdeal Cert.KernelIdeal.Gen
open Idealize.ShloMosaic Idealize.ShloMosaic.TcCoe
open Idealize.ShloMosaic.ValueIdx
open Idealize.SL Idealize.SL.Sem

variable {F : FTy → Type} [FloatOps F]

/-! ## Devices and semaphores -/

/-- The devices `1, …, 7` on from `c`, in the order they are signalled and sent to. -/
def others (c : Dev nD) : List (Fin 8) := [c + 1, c + 2, c + 3, c + 4, c + 5, c + 6, c + 7]

theorem peers_eq (c : Dev nD) : peers c = others c := by revert c; decide +kernel
theorem targets_eq (c : Dev nD) : targets c = (others c).zip [1, 2, 3, 4, 5, 6, 7] := by revert c; decide +kernel
theorem others_nodup (c : Dev nD) : (others c).Nodup := by revert c; decide +kernel
theorem others_mem (c s : Dev nD) : Iff (s ∈ others c) (s ≠ c) := by revert c s; decide +kernel
theorem others_set (c : Dev nD) : (others c).toFinset = Finset.univ.erase c := by revert c; decide +kernel

theorem fromSm_eq (c : Dev nD) (r : Fin 7) : fromSm c r = landSm (c + ⟨1 + r.val, by omega⟩ : Fin 8) := by revert c r; decide +kernel
theorem sendSm_inj : Function.Injective sendSm := by decide +kernel
theorem landSm_inj : Function.Injective (landSm : Fin 8 → DmaSem sig) := by decide +kernel
theorem localS_inj : Function.Injective fun p : Fin 8 × Fin 4 => localS p.1 p.2 := by decide +kernel
theorem sendSm_ne_landSm (d s : Fin 8) : sendSm d ≠ landSm s := by revert d s; decide +kernel
theorem localS_ne_landSm (j : Fin 8) (i : Fin 4) (s : Fin 8) : localS j i ≠ landSm s := by revert j i s; decide +kernel

/-- The credit of one pair of sums, on its receive semaphore and on its send semaphore. -/
abbrev N : ℕ := ownM.view.dmaCredit
theorem N_pos : 0 < N := View.dmaCredit_pos _ (by decide)
theorem landM_credit (c : Dev nD) : (landM c).view.dmaCredit = N := rfl
theorem fromM_credit (c : Dev nD) (r : Fin 7) : (fromM c r).view.dmaCredit = N := rfl

/-! ## The elements of the pieces -/

/-- The elements piece `(j, s)` lands on, the elements of `W` it is read from, the elements row `s` lands on. -/
abbrev pieceSet (j : Fin 8) (s : Fin 4) : Finset S8x1024x1024.Idx := (pieceM j s).view.set
abbrev srcSet (j : Fin 8) (s : Fin 4) : Finset S1024x8192.Idx := (srcM j s).view.set
abbrev rowSet (s : Fin 8) : Finset S8x2x512.Idx := (landM s).view.set

theorem mem_piece (j : Fin 8) (s : Fin 4) (i : S8x1024x1024.Idx) :
    Iff (i ∈ pieceSet j s) ((i 0).val = j.val ∧ (i 1).val / 256 = s.val) := by
  refine (iff_of_eq (congrArg (i ∈ ·) ((View.set_reshape _ _).trans (View.set_slice_whole cc0_scratch0 _)))).trans ?_
  refine Rect.mem_set_unit.trans ⟨fun h => ?_, fun h a => ?_⟩
  · have h0 := h 0; have h1 := h 1
    change j.val ≤ (i 0).val ∧ (i 0).val < j.val + 1 at h0
    change 256 * s.val ≤ (i 1).val ∧ (i 1).val < 256 * s.val + 256 at h1
    omega
  · have h2 : (i 2).val < 1024 := (i 2).isLt
    match a with
    | ⟨0, _⟩ => show j.val ≤ (i 0).val ∧ (i 0).val < j.val + 1; omega
    | ⟨1, _⟩ => show 256 * s.val ≤ (i 1).val ∧ (i 1).val < 256 * s.val + 256; omega
    | ⟨2, _⟩ => show 0 ≤ (i 2).val ∧ (i 2).val < 0 + 1024; omega

theorem mem_src (j : Fin 8) (s : Fin 4) (i : S1024x8192.Idx) :
    Iff (i ∈ srcSet j s) ((i 1).val / 1024 = j.val ∧ (i 0).val / 256 = s.val) := by
  refine (iff_of_eq (congrArg (i ∈ ·) (View.set_slice_whole main_arg1 _))).trans ?_
  refine Rect.mem_set_unit.trans ⟨fun h => ?_, fun h a => ?_⟩
  · have h0 := h 0; have h1 := h 1
    change 256 * s.val ≤ (i 0).val ∧ (i 0).val < 256 * s.val + 256 at h0
    change 1024 * j.val ≤ (i 1).val ∧ (i 1).val < 1024 * j.val + 1024 at h1
    omega
  · match a with
    | ⟨0, _⟩ => show 256 * s.val ≤ (i 0).val ∧ (i 0).val < 256 * s.val + 256; omega
    | ⟨1, _⟩ => show 1024 * j.val ≤ (i 1).val ∧ (i 1).val < 1024 * j.val + 1024; omega

theorem mem_row (s : Fin 8) (i : S8x2x512.Idx) : Iff (i ∈ rowSet s) (i 0 = s) := by
  refine (iff_of_eq (congrArg (i ∈ ·) (View.set_slice_whole cc0_scratch2 _))).trans ?_
  refine Rect.mem_set_unit.trans ?_
  rw [k0_off2_eq]
  refine ⟨fun h => Fin.ext ?_, fun h a => ?_⟩
  · have h0 := h 0
    change s.val ≤ (i 0).val ∧ (i 0).val < s.val + 1 at h0
    show (i 0).val = s.val
    omega
  · have h0 : (i 0).val = s.val := congrArg Fin.val h
    have h1 : (i 1).val < 2 := (i 1).isLt
    have h2 : (i 2).val < 512 := (i 2).isLt
    match a with
    | ⟨0, _⟩ => show s.val ≤ (i 0).val ∧ (i 0).val < s.val + 1; omega
    | ⟨1, _⟩ => show 0 ≤ (i 1).val ∧ (i 1).val < 0 + 2; omega
    | ⟨2, _⟩ => show 0 ≤ (i 2).val ∧ (i 2).val < 0 + 512; omega

theorem mem_chunk (j : Fin 8) (i : S8x1024x1024.Idx) : Iff (i ∈ (chunkR j).set) ((i 0).val = j.val) := by
  refine Rect.mem_set_unit.trans ⟨fun h => ?_, fun h a => ?_⟩
  · have h0 := h 0
    change j.val ≤ (i 0).val ∧ (i 0).val < j.val + 1 at h0
    omega
  · have h1 : (i 1).val < 1024 := (i 1).isLt
    have h2 : (i 2).val < 1024 := (i 2).isLt
    match a with
    | ⟨0, _⟩ => show j.val ≤ (i 0).val ∧ (i 0).val < j.val + 1; omega
    | ⟨1, _⟩ => show 0 ≤ (i 1).val ∧ (i 1).val < 0 + 1024; omega
    | ⟨2, _⟩ => show 0 ≤ (i 2).val ∧ (i 2).val < 0 + 1024; omega

theorem piece_disjoint (p p' : Fin 8 × Fin 4) (h : p ≠ p') : Disjoint (pieceSet p.1 p.2) (pieceSet p'.1 p'.2) :=
  Finset.disjoint_left.mpr fun i hi hi' => h (by
    have a := (mem_piece _ _ i).mp hi; have b := (mem_piece _ _ i).mp hi'
    exact Prod.ext (Fin.ext (a.1.symm.trans b.1)) (Fin.ext (a.2.symm.trans b.2)))
theorem piece_cover : Finset.univ.biUnion (fun p : Fin 8 × Fin 4 => (pieceSet p.1 p.2)) = Finset.univ :=
  Finset.eq_univ_iff_forall.mpr fun i => by
    have h1 : (i 1).val < 1024 := (i 1).isLt
    exact Finset.mem_biUnion.mpr ⟨(⟨(i 0).val, (i 0).isLt⟩, ⟨(i 1).val / 256, by omega⟩), Finset.mem_univ _, (mem_piece _ _ i).mpr ⟨rfl, rfl⟩⟩
theorem src_disjoint (p p' : Fin 8 × Fin 4) (h : p ≠ p') : Disjoint (srcSet p.1 p.2) (srcSet p'.1 p'.2) :=
  Finset.disjoint_left.mpr fun i hi hi' => h (by
    have a := (mem_src _ _ i).mp hi; have b := (mem_src _ _ i).mp hi'
    exact Prod.ext (Fin.ext (a.1.symm.trans b.1)) (Fin.ext (a.2.symm.trans b.2)))
theorem src_cover : Finset.univ.biUnion (fun p : Fin 8 × Fin 4 => (srcSet p.1 p.2)) = Finset.univ :=
  Finset.eq_univ_iff_forall.mpr fun i => by
    have h0 : (i 0).val < 1024 := (i 0).isLt
    have h1 : (i 1).val < 8192 := (i 1).isLt
    exact Finset.mem_biUnion.mpr ⟨(⟨(i 1).val / 1024, by omega⟩, ⟨(i 0).val / 256, by omega⟩), Finset.mem_univ _, (mem_src _ _ i).mpr ⟨rfl, rfl⟩⟩
theorem row_disjoint (s s' : Fin 8) (h : s ≠ s') : Disjoint (rowSet s) (rowSet s') :=
  Finset.disjoint_left.mpr fun i hi hi' => h (((mem_row s i).mp hi).symm.trans ((mem_row s' i).mp hi'))
theorem row_cover : Finset.univ.biUnion (fun s : Fin 8 => rowSet s) = Finset.univ :=
  Finset.eq_univ_iff_forall.mpr fun i => Finset.mem_biUnion.mpr ⟨i 0, Finset.mem_univ _, (mem_row _ i).mpr rfl⟩

/-! ## What lands -/

/-- The chunk buffer after every copy: chunk `j` at `(r, c)` is the `W` block at `(r, 1024 j + c)`. -/
def gathered (w : S1024x8192.Idx → Elt F .f32) : S8x1024x1024.Idx → Elt F .f32 := fun i =>
  w (ix2 ⟨(i 1).val, (i 1).isLt⟩ ⟨1024 * (i 0).val + (i 2).val, by
    have h0 : (i 0).val < 8 := (i 0).isLt
    have h2 : (i 2).val < 1024 := (i 2).isLt
    omega⟩)

theorem landed_piece (j : Fin 8) (s : Fin 4) (f : S8x1024x1024.Idx → Elt F .f32) (w : S1024x8192.Idx → Elt F .f32) :
    ∀ i ∈ pieceSet j s, (pieceM j s).view.write (Elt F) f ((srcM j s).view.read (Elt F) w) Finset.univ i = gathered w i := by
  intro i hi
  obtain ⟨x, -, rfl⟩ := Finset.mem_map.mp hi
  rw [View.write_emb_of_mem _ _ (Finset.mem_univ _)]
  obtain ⟨a, b, rfl⟩ : ∃ a b, x = (ix2 a b : S256x1024.Idx) := ⟨x 0, x 1, by funext d; match d with | ⟨0, _⟩ => rfl | ⟨1, _⟩ => rfl⟩
  have he : (pieceM j s).view.emb (ix2 a b) = (ix3 j ⟨256 * s.val + a.val, by omega⟩ b : S8x1024x1024.Idx) := by
    show (Rect.unit (s := S8x1024x1024) ![j.val, 256 * s.val, 0] S1x256x1024.size (piece_inb j s)).emb (Shape.reshapeEquiv _ (ix2 a b)) = _
    rw [reshapeEquiv_ix2_1ab]
    funext d; match d with
    | ⟨0, _⟩ => exact Fin.ext (by show j.val + 1 * 0 = j.val; omega)
    | ⟨1, _⟩ => exact Fin.ext (by show 256 * s.val + 1 * a.val = 256 * s.val + a.val; omega)
    | ⟨2, _⟩ => exact Fin.ext (by show 0 + 1 * b.val = b.val; omega)
  rw [he]
  show w ((srcM j s).view.emb (ix2 a b)) = w _
  congr 1
  funext d; match d with
  | ⟨0, _⟩ => exact Fin.ext (by show 256 * s.val + 1 * a.val = 256 * s.val + a.val; omega)
  | ⟨1, _⟩ => exact Fin.ext (by show 1024 * j.val + 1 * b.val = 1024 * j.val + b.val; omega)

/-- The pairs of all devices, row by row. -/
def gatheredPairs (v : Fin 8 → S1x2x512.Idx → Elt F .f32) : S8x2x512.Idx → Elt F .f32 := fun i =>
  v (i 0) (ix3 0 ⟨(i 1).val, (i 1).isLt⟩ ⟨(i 2).val, (i 2).isLt⟩)

theorem landed_row (s : Fin 8) (f : S8x2x512.Idx → Elt F .f32) (v : Fin 8 → S1x2x512.Idx → Elt F .f32) :
    ∀ i ∈ rowSet s, (landM s).view.write (Elt F) f (ownM.view.read (Elt F) (v s)) Finset.univ i = gatheredPairs v i := by
  intro i hi
  have h0 : i 0 = s := (mem_row s i).mp hi
  obtain ⟨x, -, rfl⟩ := Finset.mem_map.mp hi
  rw [View.write_emb_of_mem _ _ (Finset.mem_univ _)]
  show v s x = v ((landM s).view.emb x 0) _
  rw [h0]
  congr 1
  have hx0 : (x 0).val < 1 := (x 0).isLt
  have e (d : Fin 3) : ((landM s).view.emb x d).val = k0_off2 s d + 1 * (x d).val := rfl
  funext d; match d with
  | ⟨0, _⟩ => exact Fin.ext (by show (x 0).val = 0; omega)
  | ⟨1, _⟩ => exact Fin.ext (by have := e 1; rw [k0_off2_eq] at this; change _ = 0 + 1 * (x 1).val at this; show (x 1).val = ((landM s).view.emb x 1).val; omega)
  | ⟨2, _⟩ => exact Fin.ext (by have := e 2; rw [k0_off2_eq] at this; change _ = 0 + 1 * (x 2).val at this; show (x 2).val = ((landM s).view.emb x 2).val; omega)

end Cert.Run

end
-- ==== Proof.Protocol.lean ====
/-
The protocol of the exchange. Device `c` signals every other device's barrier once, which hands the row it will
write of `c`'s buffer over to that device; after seven units on its own barrier a device holds the row `c` of every
other device's buffer and sends its pair of sums there, one transfer each, completing on the send semaphore of its
distance and on the target's receive semaphore number `c`. Every cell has one round.
-/
module

public import proofs.«01_k».proof.Proof.Data
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, the exchange's (a duty is named by the device that pays it), the local copies' -/

abbrev UX : Type := URounds (GSem nD τ sig) (Fin 8)
abbrev UU : Type := UR sig nD τ × (UX × Counters)

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := Emb.inl.trans embR
abbrev EC : UEmb Counters (MT nD τ sig Unit (Elt F) ℕ UU ℕ) := countersEmb

instance landsX : (ER : Emb UX 𝕄).LandsIn (upEmb : UEmb _ 𝕄) := by unfold ER embR; infer_instance

/-! ## The cells -/

/-- A device's cells: its barrier, its eight send semaphores, its eight receive semaphores. -/
abbrev Slot : Type := Unit ⊕ Fin 8 ⊕ Fin 8
abbrev csem : Slot → SemLoc sig
  | .inl _ => .reg barS
  | .inr (.inl d) => .dma (sendSm d)
  | .inr (.inr s) => .dma (landSm s)
abbrev kcell (p : Dev nD × Slot) : GSem nD τ sig := ((p.1 : Thread nD τ), csem p.2)
abbrev barCell (c : Dev nD) : GSem nD τ sig := ((c : Thread nD τ), .reg barS)
abbrev sendCell (c : Dev nD) (d : Fin 8) : GSem nD τ sig := ((c : Thread nD τ), .dma (sendSm d))
abbrev recvCell (c : Dev nD) (s : Fin 8) : GSem nD τ sig := ((c : Thread nD τ), .dma (landSm s))

theorem csem_inj : Function.Injective csem := by
  rintro (⟨⟩ | d | s) (⟨⟩ | d' | s') h
  · rfl
  · cases h
  · cases h
  · cases h
  · exact congrArg _ (congrArg _ (sendSm_inj (SemLoc.dma.inj h)))
  · exact absurd (SemLoc.dma.inj h) (sendSm_ne_landSm d s')
  · cases h
  · exact absurd (SemLoc.dma.inj h).symm (sendSm_ne_landSm d' s)
  · exact congrArg _ (congrArg _ (landSm_inj (SemLoc.dma.inj h)))

theorem kcell_inj : Function.Injective (kcell : Dev nD × Slot → GSem nD τ sig) := fun p q h =>
  Prod.ext (congrArg (fun g : GSem nD τ sig => g.1.1) h) (csem_inj (congrArg Prod.snd h))

/-- The slot of a semaphore. -/
def slotOf : SemLoc sig → Option Slot := Function.partialInv csem
theorem slotOf_csem (k : Slot) : slotOf (csem k) = some k := Function.partialInv_left csem_inj k

theorem recvCell_eq_iff {a b : Dev nD} {s t : Fin 8} : Iff (recvCell a s = recvCell b t) (a = b ∧ s = t) :=
  ⟨fun h => by
    have := kcell_inj (a₁ := (a, .inr (.inr s))) (a₂ := (b, .inr (.inr t))) h
    exact ⟨congrArg Prod.fst this, Sum.inr.inj (Sum.inr.inj (congrArg Prod.snd this))⟩, fun ⟨h, h'⟩ => h ▸ h' ▸ rfl⟩
theorem barCell_eq_iff {a b : Dev nD} : Iff (barCell a = barCell b) (a = b) :=
  ⟨fun h => congrArg (fun g : GSem nD τ sig => g.1.1) h, fun h => h ▸ rfl⟩
theorem recvCell_ne_barCell {a b : Dev nD} {s : Fin 8} : recvCell a s ≠ barCell b := fun h => by cases congrArg Prod.snd h

/-! ## The payloads -/

/-- Row `s` of the pairs' buffer of device `c`. -/
def rowPts (c : Dev nD) (s : Fin 8) (f : S8x2x512.Idx → Elt F .f32) : sProp 𝕄 :=
  (landM s).view.loc (c : Thread nD τ) ↦[(landM s).view.set]{fullShare} f
/-- The share `q` of the device's own pair. -/
def ownPts (c : Dev nD) (q : PosShare TreeShare) (f : S1x2x512.Idx → Elt F .f32) : sProp 𝕄 :=
  ownM.view.loc (c : Thread nD τ) ↦[ownM.view.set]{q} f
/-- What `s`'s signal hands `c`: row `c` of `s`'s buffer. -/
def barPay (c s : Dev nD) : sProp 𝕄 := iprop(∃ f, rowPts (F := F) s c f)

instance rowPts_storable (c : Dev nD) (s : Fin 8) (f) : BI.Storable (upEmb : UEmb _ 𝕄) (rowPts (F := F) c s f) := by unfold rowPts; infer_instance
instance ownPts_storable (c : Dev nD) (q) (f) : BI.Storable (upEmb : UEmb _ 𝕄) (ownPts (F := F) c q f) := by unfold ownPts; infer_instance
instance barPay_storable (c s : Dev nD) : BI.Storable (upEmb : UEmb _ 𝕄) (barPay (F := F) c s) := by unfold barPay; infer_instance

variable (v : Dev nD → S1x2x512.Idx → Elt F .f32)

/-! ## The schedule -/

def dutiesOf (c : Dev nD) : Option Slot → Finset (Fin 8)
  | some (.inl _) => Finset.univ.erase c
  | some (.inr (.inl d)) => if d = 0 then ∅ else {c}
  | some (.inr (.inr s)) => if s = c then ∅ else {s}
  | none => ∅
def amountOf : Option Slot → ℕ
  | some (.inl _) => 1
  | _ => N
def payloadOf (c : Dev nD) (d : Fin 8) : Option Slot → sProp 𝕄
  | some (.inl _) => barPay c d
  | some (.inr (.inl k)) => ownPts c (Transfers.shareTok fullShare 8 k) (v c)
  | some (.inr (.inr s)) => rowPts c s (gatheredPairs v)
  | none => iprop(emp)

instance payloadOf_storable (c : Dev nD) (d : Fin 8) (o : Option Slot) : BI.Storable (upEmb : UEmb _ 𝕄) (payloadOf v c d o) := by
  rcases o with _ | ⟨⟩ | d | s <;> (unfold payloadOf; infer_instance)

def sched : Rounds.Schedule (GSem nD τ sig) (Fin 8) 𝕄 where
  duties g r := if r = 0 ∧ g.1.2 = .tc then dutiesOf g.1.1 (slotOf g.2) else ∅
  unitless _ := False
  amount g _ _ := amountOf (slotOf g.2)
  payload g _ d := payloadOf v g.1.1 d (slotOf g.2)
  amount_pos g _ _ _ := by
    rcases slotOf g.2 with _ | ⟨⟩ | d | s
    · exact N_pos
    · exact Nat.one_pos
    · exact N_pos
    · exact N_pos

instance sched_storable (g : GSem nD τ sig) (r : ℕ) (d : Fin 8) : BI.Storable (upEmb : UEmb _ 𝕄) ((sched v).payload g r d) := by
  show BI.Storable upEmb (payloadOf v g.1.1 d (slotOf g.2)); infer_instance

theorem duties_cell (c : Dev nD) (k : Slot) : (sched v).duties (kcell (c, k)) 0 = dutiesOf c (some k) := by
  unfold sched
  dsimp only
  rw [if_pos ⟨rfl, rfl⟩, slotOf_csem]
theorem amount_cell (c : Dev nD) (k : Slot) (r : ℕ) (d : Fin 8) : (sched v).amount (kcell (c, k)) r d = amountOf (some k) := by
  show amountOf (slotOf (csem k)) = _; rw [slotOf_csem]
theorem payload_cell (c : Dev nD) (k : Slot) (r : ℕ) (d : Fin 8) : (sched v).payload (kcell (c, k)) r d = payloadOf v c d (some k) := by
  show payloadOf v c d (slotOf (csem k)) = _; rw [slotOf_csem]
theorem duties_later (g : GSem nD τ sig) : ∀ r, 1 ≤ r → (sched v).duties g r = ∅ := fun r hr => if_neg fun h => by omega

theorem duties_send (c : Dev nD) {d : Fin 8} (hd : d ≠ 0) : (sched v).duties (sendCell c d) 0 = {c} :=
  (duties_cell v c (.inr (.inl d))).trans (if_neg hd)
theorem duties_recv (c : Dev nD) {s : Fin 8} (hs : s ≠ c) : (sched v).duties (recvCell c s) 0 = {s} :=
  (duties_cell v c (.inr (.inr s))).trans (if_neg hs)

theorem expect_bar (c : Dev nD) : (sched v).expect (barCell c) 0 = 7 := by
  unfold Schedule.expect Schedule.amountOf
  rw [show (sched v).duties (barCell c) 0 = Finset.univ.erase c from duties_cell v c (.inl ()),
    Finset.sum_congr rfl fun d _ => amount_cell v c (.inl ()) 0 d]
  simp only [amountOf, Finset.sum_const, Finset.card_erase_of_mem (Finset.mem_univ c), Finset.card_univ]
  rfl
theorem expect_send (c : Dev nD) {d : Fin 8} (hd : d ≠ 0) : (sched v).expect (sendCell c d) 0 = N := by
  unfold Schedule.expect Schedule.amountOf
  rw [duties_send v c hd,
    Finset.sum_singleton]
  exact amount_cell v c (.inr (.inl d)) 0 c
theorem expect_recv (c : Dev nD) {s : Fin 8} (hs : s ≠ c) : (sched v).expect (recvCell c s) 0 = N := by
  unfold Schedule.expect Schedule.amountOf
  rw [duties_recv v c hs,
    Finset.sum_singleton]
  exact amount_cell v c (.inr (.inr s)) 0 s

theorem rest_bar (c : Dev nD) :
    bigSep ((sched v).duties (barCell c) 0 \ ∅) (fun d => (sched v).payload (barCell c) 0 d) = bigSep (Finset.univ.erase c) (fun s => barPay (F := F) c s) := by
  rw [Finset.sdiff_empty, show (sched v).duties (barCell c) 0 = Finset.univ.erase c from duties_cell v c (.inl ())]
  exact bigSep_congr fun d _ => payload_cell v c (.inl ()) 0 d
theorem rest_send (c : Dev nD) {d : Fin 8} (hd : d ≠ 0) :
    bigSep ((sched v).duties (sendCell c d) 0 \ ∅) (fun s => (sched v).payload (sendCell c d) 0 s) = ownPts c (Transfers.shareTok fullShare 8 d) (v c) := by
  rw [Finset.sdiff_empty, duties_send v c hd, bigSep_singleton]
  exact payload_cell v c (.inr (.inl d)) 0 c
theorem rest_recv (c : Dev nD) {s : Fin 8} (hs : s ≠ c) :
    bigSep ((sched v).duties (recvCell c s) 0 \ ∅) (fun d => (sched v).payload (recvCell c s) 0 d) = rowPts c s (gatheredPairs v) := by
  rw [Finset.sdiff_empty, duties_recv v c hs, bigSep_singleton]
  exact payload_cell v c (.inr (.inr s)) 0 s

/-- A cell nothing is paid to has no duty at all. -/
theorem duties_send0 (c : Dev nD) : ∀ r, 0 ≤ r → (sched v).duties (sendCell c 0) r = ∅ := fun r _ => by
  rcases r with _ | r
  · exact (duties_cell v c (.inr (.inl 0))).trans (by unfold dutiesOf; exact if_pos rfl)
  · exact duties_later v _ _ (by omega)
theorem duties_recvSelf (c : Dev nD) : ∀ r, 0 ≤ r → (sched v).duties (recvCell c c) r = ∅ := fun r _ => by
  rcases r with _ | r
  · exact (duties_cell v c (.inr (.inr c))).trans (if_pos rfl)
  · exact duties_later v _ _ (by omega)

/-! ## What a device owes, and the levels -/

/-- The transfers to the devices of the list, the first of them the last summand. -/
def sendDebt (c : Dev nD) : List (Dev nD) → CellTallies nD τ sig Unit
  | [] => 0
  | p :: l => sendDebt c l + tallyAt (recvCell p c) () N
/-- The signals to the devices of the list on top of `O`. -/
def signalDebt (O : CellTallies nD τ sig Unit) : List (Dev nD) → CellTallies nD τ sig Unit
  | [] => O
  | p :: l => signalDebt O l + tallyAt (barCell p) () 1
def O₀ (c : Dev nD) : CellTallies nD τ sig Unit := signalDebt (sendDebt c (others c)) (others c)

theorem sendDebt_pos {c : Dev nD} {g : GSem nD τ sig} {u : Unit} : ∀ {l : List (Dev nD)}, 0 < sendDebt c l g u → ∃ p, g = recvCell p c
  | [], h => absurd h (Nat.lt_irrefl 0)
  | p :: l, h => by
    unfold sendDebt at h
    rw [Pi.add_apply, Finsupp.add_apply, tallyAt_apply] at h
    by_cases hp : g = recvCell p c ∧ u = ()
    · exact ⟨p, hp.1⟩
    · rw [if_neg hp, Nat.add_zero] at h; exact sendDebt_pos h
theorem signalDebt_pos {O : CellTallies nD τ sig Unit} {g : GSem nD τ sig} {u : Unit} :
    ∀ {l : List (Dev nD)}, 0 < signalDebt O l g u → (0 < O g u) ∨ ∃ p, g = barCell p
  | [], h => .inl h
  | p :: l, h => by
    unfold signalDebt at h
    rw [Pi.add_apply, Finsupp.add_apply, tallyAt_apply] at h
    by_cases hp : g = barCell p ∧ u = ()
    · exact .inr ⟨p, hp.1⟩
    · rw [if_neg hp, Nat.add_zero] at h; exact signalDebt_pos h

def L (g : GSem nD τ sig) : Finset Unit := if g.1.2 = .tc then {()} else ∅
/-- Barrier cells at 1, receive cells at 2, everything else at 0. -/
def lv (g : GSem nD τ sig) (_ : Unit) : ℕ :=
  match slotOf g.2 with
  | some (.inl _) => 1
  | some (.inr (.inr _)) => 2
  | _ => 0

theorem L_of_ne (g : GSem nD τ sig) (h : g.1.2 ≠ .tc) : L g = ∅ := if_neg h
theorem mem_L (c : Dev nD) (sm : SemLoc sig) (u : Unit) : u ∈ L ((c : Thread nD τ), sm) := by
  rw [show L ((c : Thread nD τ), sm) = {()} from if_pos rfl]; exact Finset.mem_singleton_self _
theorem lv_bar (c : Dev nD) (u : Unit) : lv (barCell c) u = 1 := by unfold lv; rw [show slotOf (barCell c).2 = some (.inl ()) from slotOf_csem (.inl ())]
theorem lv_recv (c : Dev nD) (s : Fin 8) (u : Unit) : lv (recvCell c s) u = 2 := by
  unfold lv; rw [show slotOf (recvCell c s).2 = some (.inr (.inr s)) from slotOf_csem (.inr (.inr s))]
theorem lv_low (c : Dev nD) (q : DmaSem sig) (hq : ∀ s, q ≠ landSm s) (u : Unit) : lv ((c : Thread nD τ), .dma q) u = 0 := by
  unfold lv
  have h : ∀ k, slotOf (.dma q) = some k → csem k = .dma q := fun k hk => (Function.partialInv_of_injective csem_inj k _).mp hk
  revert h
  show (∀ k, slotOf (.dma q) = some k → csem k = .dma q) → (match slotOf (.dma q) with | some (.inl _) => 1 | some (.inr (.inr _)) => 2 | _ => 0) = 0
  rcases slotOf (.dma q) with _ | ⟨⟩ | d | s
  · intro _; rfl
  · intro h; exact absurd (h _ rfl) (fun h => by cases h)
  · intro _; rfl
  · intro h; exact absurd (SemLoc.dma.inj (h _ rfl)).symm (hq s)

theorem mayWait_low (c : Dev nD) (q : DmaSem sig) (hq : ∀ s, q ≠ landSm s) (O : CellTallies nD τ sig Unit)
    (hO : ∀ g u, 0 < O g u → (∃ p, g = barCell p) ∨ ∃ p s, g = recvCell p s) :
    (levAts L lv : sProp 𝕄) ⊢ MayWait (c : Thread nD τ) (.dma q) () O :=
  MayOwe.of_cut (L := L) (lev := lv) 0 (fun p hp => by rw [Finset.mem_singleton.mp hp]; exact mem_L c _ _)
    (fun g u hg => by rcases hO g u hg with ⟨p, rfl⟩ | ⟨p, s, rfl⟩ <;> exact mem_L _ _ _)
    (fun p hp => by rw [Finset.mem_singleton.mp hp]; exact (lv_low c q hq _).le)
    (fun g u hg => by
      rcases hO g u hg with ⟨p, rfl⟩ | ⟨p, s, rfl⟩
      · rw [lv_bar]; decide
      · rw [lv_recv]; decide)
theorem mayWait_bar (c : Dev nD) (l : List (Dev nD)) :
    (levAts L lv : sProp 𝕄) ⊢ MayWait (c : Thread nD τ) (.reg barS) () (sendDebt c l) :=
  MayOwe.of_cut (L := L) (lev := lv) 1 (fun p hp => by rw [Finset.mem_singleton.mp hp]; exact mem_L c _ _)
    (fun g u hg => by obtain ⟨p, rfl⟩ := sendDebt_pos hg; exact mem_L _ _ _)
    (fun p hp => by rw [Finset.mem_singleton.mp hp]; exact (lv_bar c _).le)
    (fun g u hg => by obtain ⟨p, rfl⟩ := sendDebt_pos hg; rw [lv_recv]; decide)

theorem sendDebt_high (c : Dev nD) (l : List (Dev nD)) (g : GSem nD τ sig) (u : Unit) (h : 0 < sendDebt c l g u) :
    (∃ p, g = barCell p) ∨ ∃ p s, g = recvCell p s := by
  obtain ⟨p, rfl⟩ := sendDebt_pos h; exact .inr ⟨p, c, rfl⟩
theorem O₀_high (c : Dev nD) (g : GSem nD τ sig) (u : Unit) (h : 0 < O₀ c g u) : (∃ p, g = barCell p) ∨ ∃ p s, g = recvCell p s := by
  rcases signalDebt_pos h with h | h
  · exact sendDebt_high c _ g u h
  · exact .inl h

/-! ## Runs over a list -/

/-- One `Φ a` for every element of a list. -/
def each {A : Type} (Φ : A → sProp 𝕄) : List A → sProp 𝕄
  | [] => iprop(emp)
  | a :: l => iprop(Φ a ∗ each Φ l)

theorem each_of_set {A : Type} [DecidableEq A] (Φ : A → sProp 𝕄) : ∀ (l : List A), l.Nodup → bigSep l.toFinset Φ = each Φ l
  | [], _ => by rw [List.toFinset_nil, bigSep_empty]; rfl
  | a :: l, h => by
    rw [List.toFinset_cons, bigSep_insert (by rw [List.mem_toFinset]; exact (List.nodup_cons.mp h).1), each_of_set Φ l (List.nodup_cons.mp h).2]
    rfl

theorem each_mono {A : Type} {Φ Ψ : A → sProp 𝕄} : ∀ {l : List A}, (∀ a ∈ l, Φ a ⊢ Ψ a) → each Φ l ⊢ each Ψ l
  | [], _ => BI.Entails.refl _
  | a :: l, h => BI.sep_mono (h a (List.mem_cons_self ..)) (each_mono fun b hb => h b (List.mem_cons_of_mem _ hb))

theorem each_sep {A : Type} (Φ Ψ : A → sProp 𝕄) : ∀ (l : List A), iprop(each Φ l ∗ each Ψ l) ⊢ each (fun a => iprop(Φ a ∗ Ψ a)) l
  | [] => by unfold each; iintro -; iempintro
  | a :: l => by
    unfold each
    iintro ⟨⟨H1, H2⟩, H3, H4⟩
    isplitl [H1 H3]
    · isplitl [H1] <;> iassumption
    iapply (each_sep Φ Ψ l)
    isplitl [H2] <;> iassumption

theorem each_unsep {A : Type} (Φ Ψ : A → sProp 𝕄) : ∀ (l : List A), each (fun a => iprop(Φ a ∗ Ψ a)) l ⊢ iprop(each Φ l ∗ each Ψ l)
  | [] => by unfold each; iintro -; isplitr <;> iempintro
  | a :: l => by
    unfold each
    iintro ⟨⟨H1, H3⟩, H⟩
    ihave H' := (each_unsep Φ Ψ l) $$ H
    icases H' with ⟨H2, H4⟩
    isplitl [H1 H2]
    · isplitl [H1] <;> iassumption
    isplitl [H3] <;> iassumption

theorem each_append {A : Type} (Φ : A → sProp 𝕄) : ∀ (l l' : List A), each Φ (l ++ l') ⊢ iprop(each Φ l ∗ each Φ l')
  | [], l' => by unfold each; iintro H; isplitr; · iempintro
                 iexact H
  | a :: l, l' => by
    show iprop(Φ a ∗ each Φ (l ++ l')) ⊢ iprop((Φ a ∗ each Φ l) ∗ each Φ l')
    iintro ⟨H1, H⟩
    ihave H' := (each_append Φ l l') $$ H
    icases H' with ⟨H2, H3⟩
    isplitl [H1 H2]
    · isplitl [H1] <;> iassumption
    iexact H3

end Cert.Run

end
-- ==== Proof.Steps.lean ====
/-
What each stretch of the program does to what the device holds: the signals, the starts of the local copies, the
chunks, the transfers, the receive waits and the send waits, each by induction over its list.
-/
module

public import proofs.«01_k».proof.Proof.Protocol
public import Idealize.ShloMosaic.Lib.Ring

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (v : Dev nD → S1x2x512.Idx → Elt F .f32)

/-- Every cell's invariant, under the names they were allocated at, and that every cell is at its first round. -/
def facts (K : Dev nD × Slot → ℕ) : sProp 𝕄 :=
  iprop((bigSep Finset.univ fun p : Dev nD × Slot => cellInv ER (sched v) (K p) (kcell p))
    ∗ bigSep Finset.univ fun p : Dev nD × Slot => reached ER (kcell p) 0)

instance facts_persistent (K : Dev nD × Slot → ℕ) : BI.Persistent (facts v K) := by unfold facts; infer_instance

theorem facts_inv (K : Dev nD × Slot → ℕ) (p : Dev nD × Slot) : facts v K ⊢ cellInv ER (sched v) (K p) (kcell p) := by
  have h : (bigSep Finset.univ fun p : Dev nD × Slot => cellInv ER (sched v) (K p) (kcell p)) ⊢ cellInv ER (sched v) (K p) (kcell p) :=
    bigSep_elim (Finset.mem_univ p)
  unfold facts; iintro ⟨H, -⟩; iapply h $$ H
theorem facts_reached (K : Dev nD × Slot → ℕ) (p : Dev nD × Slot) : facts v K ⊢ reached ER (kcell p) 0 := by
  have h : (bigSep Finset.univ fun p : Dev nD × Slot => (reached ER (kcell p) 0 : sProp 𝕄)) ⊢ reached ER (kcell p) 0 :=
    bigSep_elim (Finset.mem_univ p)
  unfold facts; iintro ⟨-, H⟩; iapply h $$ H

abbrev Runs (c : Dev nD) (k : Pg F) (Q : PUnit → sProp 𝕄) : sProp 𝕄 :=
  wp frame (wpE (defs₀ (F := F)) 𝒱₀ (c : Thread nD τ) none) Set.univ k Q

variable (K : Dev nD × Slot → ℕ) (c : Dev nD) {Q : PUnit → sProp (MT nD τ sig Unit (Elt F) ℕ UU ℕ)}

/-! ## The signals -/

theorem run_signals (k : Pg F) (O : CellTallies nD τ sig Unit) (W : Waits sig Unit) : ∀ (l : List (Dev nD)), (∀ p ∈ l, p ≠ c) →
    iprop(facts v K ∗ owes (c : Thread nD τ) (signalDebt O l) W
        ∗ each (fun p => iprop(dutyTok ER (barCell p) 0 c ∗ ∃ f, rowPts (F := F) c p f)) l)
      ⊢ iprop((owes (c : Thread nD τ) O W -∗ Runs c k Q) -∗ Runs c (signals k l) Q)
  | [], _ => by
    unfold signalDebt signals
    iintro ⟨-, HO, -⟩ Hk
    iapply Hk $$ HO
  | p :: l, h => by
    unfold signalDebt signals each
    iintro ⟨#Hf, HO, ⟨Ht, Hr⟩, Hl⟩ Hk
    iapply (Rounds.wp_signal 𝒱₀ ER (sched v) (c : Thread nD τ) none (dst := (p : Thread nD τ)) (κ := K (p, .inl ())) (r := 0) (d := c)
      (by rw [duties_cell v p (.inl ())]; exact Finset.mem_erase.mpr ⟨(h p (List.mem_cons_self ..)).symm, Finset.mem_univ _⟩)
      ((amount_cell v p (.inl ()) 0 c).trans (by decide)) () (signalDebt O l) rfl) $$ [HO Ht Hr]
    · isplitr; · iapply (facts_inv v K (p, .inl ())); iexact Hf
      isplitl [HO]; · iexact HO
      isplitl [Ht]; · iexact Ht
      isplitl [Hr]
      · rw [payload_cell v p (.inl ())]; unfold payloadOf barPay; iexact Hr
      · iapply (facts_reached v K (p, .inl ())); iexact Hf
    iintro HO
    iapply (run_signals k O W l fun q hq => h q (List.mem_cons_of_mem _ hq)) $$ [HO Hl]
    · isplitr; · iexact Hf
      isplitl [HO] <;> iassumption
    iexact Hk

/-! ## The local copies -/

/-- Piece `p` of the chunk buffer; the part of `W` it comes from; its semaphore at rest; its copy under way. -/
def piecePts (p : Fin 8 × Fin 4) (f : S8x1024x1024.Idx → Elt F .f32) : sProp 𝕄 :=
  (pieceM p.1 p.2).view.loc (c : Thread nD τ) ↦[(pieceM p.1 p.2).view.set]{fullShare} f
def srcPts (p : Fin 8 × Fin 4) (w : S1024x8192.Idx → Elt F .f32) : sProp 𝕄 :=
  (srcM p.1 p.2).view.loc (c : Thread nD τ) ↦[(srcM p.1 p.2).view.set]{fullShare} w
def restPts (p : Fin 8 × Fin 4) : sProp 𝕄 := semVal ((c : Thread nD τ), .dma (localS p.1 p.2)) 0
def underway (w : S1024x8192.Idx → Elt F .f32) (p : Fin 8 × Fin 4) : sProp 𝕄 :=
  Transfers.Flight EC (c : Thread nD τ) (.dma (localS p.1 p.2)) () (pieceM p.1 p.2).view.dmaCredit iprop(piecePts c p (gathered w) ∗ srcPts c p w)
/-- A piece that has landed, and what its copy gave back. -/
def arrived (w : S1024x8192.Idx → Elt F .f32) (p : Fin 8 × Fin 4) : sProp 𝕄 :=
  iprop(piecePts c p (gathered w) ∗ srcPts c p w ∗ restPts (F := F) c p)

theorem landed_pts (p : Fin 8 × Fin 4) (f : S8x1024x1024.Idx → Elt F .f32) (w : S1024x8192.Idx → Elt F .f32) :
    ((pieceM p.1 p.2).view.loc (c : Thread nD τ) ↦[(pieceM p.1 p.2).view.set]{fullShare}
        ((pieceM p.1 p.2).view.write (Elt F) f ((srcM p.1 p.2).view.read (Elt F) w) Finset.univ) : sProp 𝕄) = piecePts c p (gathered w) :=
  pointsTo_congr (landed_piece p.1 p.2 f w)

theorem run_starts (w : S1024x8192.Idx → Elt F .f32) (k : Pg F) : ∀ (l : List (Fin 8 × Fin 4)),
    each (fun p => iprop((∃ f, piecePts (F := F) c p f) ∗ srcPts c p w ∗ restPts (F := F) c p)) l
      ⊢ iprop((each (underway c w) l -∗ Runs c k Q) -∗ Runs c (starts k l) Q)
  | [] => by
    unfold starts each
    iintro H Hk
    iapply Hk $$ H
  | p :: l => by
    unfold starts each
    have ih := run_starts w k l
    unfold piecePts srcPts restPts at ih ⊢
    iintro ⟨⟨⟨%f, Hd⟩, Hs, Hv⟩, Hl⟩ Hk
    iapply (Transfers.wp_dmaLocal EC 𝒱₀ (c : Thread nD τ) none (src := srcM p.1 p.2) (dst := pieceM p.1 p.2) (Sd := (pieceM p.1 p.2).view.set)
      () (pieceM p.1 p.2).view.dmaCredit (View.amount_dma _ _) (View.dmaCredit_pos _ (by decide)) subset_rfl) $$ [Hd Hs Hv]
    · isplitl [Hs]; · iexact Hs
      isplitl [Hd] <;> iassumption
    iintro Hfl
    iapply ih $$ Hl
    iintro Hl
    iapply Hk
    isplitl [Hfl]
    · unfold underway
      rw [← landed_pts c p f w]
      unfold srcPts
      iexact Hfl
    iexact Hl

theorem run_pieceWaits (w : S1024x8192.Idx → Elt F .f32) (O : CellTallies nD τ sig Unit)
    (hO : ∀ g u, 0 < O g u → (∃ p, g = barCell p) ∨ ∃ p s, g = recvCell p s) (j : Fin 8) (k : Pg F) : ∀ (l : List (Fin 4)) (W : Waits sig Unit),
    iprop(levAts L lv ∗ owes (c : Thread nD τ) O W ∗ each (fun s => underway c w (j, s)) l)
      ⊢ iprop((((∃ W', owes (c : Thread nD τ) O W') ∗ each (fun s => arrived c w (j, s)) l) -∗ Runs c k Q) -∗ Runs c (pieceWaits j k l) Q)
  | [], W => by
    unfold pieceWaits each
    iintro ⟨-, HO, He⟩ Hk
    iapply Hk
    isplitl [HO]; · iexists W; iexact HO
    iexact He
  | s :: l, W => by
    unfold pieceWaits each
    iintro ⟨#Hlev, HO, Hfl, Hl⟩ Hk
    unfold underway
    iapply (Transfers.wp_waitLocalO EC 𝒱₀ (c : Thread nD τ) none (sem := localS j s) (srcw := srcM j s) (dstw := pieceM j s) () rfl) $$ [Hfl HO]
    · isplitl [Hfl]; · iexact Hfl
      isplitl [HO]; · iexact HO
      iapply (mayWait_low c (localS j s) (localS_ne_landSm j s) O hO); iexact Hlev
    iintro ⟨⟨Hp, Hs⟩, Hv, HO⟩
    iapply (run_pieceWaits w O hO j k l) $$ [HO Hl]
    · isplitr; · iexact Hlev
      isplitl [HO]; · iexact HO
      unfold underway; iexact Hl
    iintro ⟨HO, Hl⟩
    iapply Hk
    isplitl [HO]; · iexact HO
    isplitl [Hp Hs Hv]
    · unfold arrived restPts
      isplitl [Hp]; · iexact Hp
      isplitl [Hs] <;> iassumption
    iexact Hl

/-! ## The chunks -/

theorem chunk_covered (j : Fin 8) : wbM.view.setOn (chunkR j).toLoadRect.set ⊆ Finset.univ.biUnion (fun s : Fin 4 => pieceSet j s) := by
  intro i hi
  obtain ⟨x, hx, rfl⟩ := Finset.mem_map.mp hi
  have h0 : (x 0).val = j.val := (mem_chunk j x).mp hx
  have h1 : (x 1).val < 1024 := (x 1).isLt
  exact Finset.mem_biUnion.mpr ⟨⟨(x 1).val / 256, by omega⟩, Finset.mem_univ _, (mem_piece j _ x).mpr ⟨h0, rfl⟩⟩

theorem chunk_pts (j : Fin 8) (f : S8x1024x1024.Idx → Elt F .f32) :
    (wbM.view.loc (c : Thread nD τ) ↦[Finset.univ.biUnion (fun s : Fin 4 => pieceSet j s)]{fullShare} f : sProp 𝕄)
      = each (fun s => piecePts c (j, s) f) [0, 1, 2, 3] := by
  rw [← each_of_set _ _ (by decide)]
  exact (Ring.pointsTo_sub_blocks (ℓ := wbM.view.loc (c : Thread nD τ)) (fun s : Fin 4 => pieceSet j s)
    (fun s s' h => piece_disjoint (j, s) (j, s') fun e => h (congrArg Prod.snd e)) _ rfl f)

/-- Chunk `j` as it is loaded. -/
def chunkVal (w : S1024x8192.Idx → Elt F .f32) (j : Fin 8) : Vec F S1x1024x1024 .f32 :=
  wbM.view.readAt (Elt F) (chunkR j).toLoadRect (gathered w)
/-- The running sums after the chunks of a list. -/
def sums (x : FVec F S512x1024 .f32) (lab : IVec S512 32) (w : S1024x8192.Idx → Elt F .f32) :
    List (Fin 8) → FVec F S512 .f32 × FVec F S512 .f32 → FVec F S512 .f32 × FVec F S512 .f32
  | [], a => a
  | j :: l, a => sums x lab w l (addChunk c x lab j (chunkVal w j) a)

theorem run_chunk (w : S1024x8192.Idx → Elt F .f32) (O : CellTallies nD τ sig Unit)
    (hO : ∀ g u, 0 < O g u → (∃ p, g = barCell p) ∨ ∃ p s, g = recvCell p s) (j : Fin 8) (k : Vec F S1x1024x1024 .f32 → Pg F) (W : Waits sig Unit) :
    iprop(levAts L lv ∗ owes (c : Thread nD τ) O W ∗ each (fun s => underway c w (j, s)) [0, 1, 2, 3])
      ⊢ iprop((((∃ W', owes (c : Thread nD τ) O W') ∗ each (fun s => arrived c w (j, s)) [0, 1, 2, 3]) -∗ Runs c (k (chunkVal w j)) Q)
          -∗ Runs c (chunk j k) Q) := by
  unfold chunk
  iintro H Hk
  iapply (run_pieceWaits c w O hO j _ [0, 1, 2, 3] W) $$ H
  iintro ⟨HO, Ha⟩
  unfold arrived
  ihave Ha' := (each_unsep (fun s => piecePts c (j, s) (gathered w)) (fun s => iprop(srcPts c (j, s) w ∗ restPts (F := F) c (j, s))) [0, 1, 2, 3]) $$ Ha
  icases Ha' with ⟨Hp, Hr⟩
  ihave Hp' := (Entails.of_eq (chunk_pts c j (gathered w)).symm) $$ Hp
  iapply (wp_load 𝒱₀ (c : Thread nD τ) none Set.univ (m := wbM) (chunk_covered j)) $$ Hp'; iintro Hp'
  iapply Hk
  isplitl [HO]; · iexact HO
  ihave Hp := (Entails.of_eq (chunk_pts c j (gathered w))) $$ Hp'
  iapply (each_sep (fun s => piecePts c (j, s) (gathered w)) (fun s => iprop(srcPts c (j, s) w ∗ restPts (F := F) c (j, s))) [0, 1, 2, 3])
  isplitl [Hp] <;> iassumption

theorem run_chunks (x : FVec F S512x1024 .f32) (lab : IVec S512 32) (w : S1024x8192.Idx → Elt F .f32) (O : CellTallies nD τ sig Unit)
    (hO : ∀ g u, 0 < O g u → (∃ p, g = barCell p) ∨ ∃ p s, g = recvCell p s) (k : FVec F S512 .f32 × FVec F S512 .f32 → Pg F) :
    ∀ (l : List (Fin 8)) (a : FVec F S512 .f32 × FVec F S512 .f32) (W : Waits sig Unit),
    iprop(levAts L lv ∗ owes (c : Thread nD τ) O W ∗ each (fun j => each (fun s => underway c w (j, s)) [0, 1, 2, 3]) l)
      ⊢ iprop((((∃ W', owes (c : Thread nD τ) O W') ∗ each (fun j => each (fun s => arrived c w (j, s)) [0, 1, 2, 3]) l) -∗ Runs c (k (sums c x lab w l a)) Q)
          -∗ Runs c (chunks c x lab k l a) Q)
  | [], a, W => by
    unfold chunks sums
    rw [show each (fun j => each (fun s => underway c w (j, s)) [0, 1, 2, 3]) [] = iprop(emp) from rfl,
      show each (fun j => each (fun s => arrived c w (j, s)) [0, 1, 2, 3]) [] = iprop(emp) from rfl]
    iintro ⟨-, HO, He⟩ Hk
    iapply Hk
    isplitl [HO]; · iexists W; iexact HO
    iexact He
  | j :: l, a, W => by
    unfold chunks sums
    rw [show each (fun j => each (fun s => underway c w (j, s)) [0, 1, 2, 3]) (j :: l)
        = iprop(each (fun s => underway c w (j, s)) [0, 1, 2, 3] ∗ each (fun j => each (fun s => underway c w (j, s)) [0, 1, 2, 3]) l) from rfl,
      show each (fun j => each (fun s => arrived c w (j, s)) [0, 1, 2, 3]) (j :: l)
        = iprop(each (fun s => arrived c w (j, s)) [0, 1, 2, 3] ∗ each (fun j => each (fun s => arrived c w (j, s)) [0, 1, 2, 3]) l) from rfl]
    iintro ⟨#Hlev, HO, Hj, Hl⟩ Hk
    iapply (run_chunk c w O hO j _ W) $$ [HO Hj]
    · isplitr; · iexact Hlev
      isplitl [HO] <;> iassumption
    iintro ⟨⟨%W', HO⟩, Hj⟩
    iapply (run_chunks x lab w O hO k l _ W') $$ [HO Hl]
    · isplitr; · iexact Hlev
      isplitl [HO] <;> iassumption
    iintro ⟨HO, Hl⟩
    iapply Hk
    isplitl [HO]; · iexact HO
    isplitl [Hj] <;> iassumption

/-! ## The transfers -/

/-- What one transfer takes: its two duties, the row it writes, its share of the device's pair. -/
def sendNeeds (p : Dev nD × Fin 8) : sProp 𝕄 :=
  iprop(dutyTok ER (sendCell c p.2) 0 c ∗ dutyTok ER (recvCell p.1 c) 0 c ∗ barPay (F := F) c p.1 ∗ ownPts c (Transfers.shareTok fullShare 8 p.2) (v c))

theorem landed_row_pts (p : Dev nD) (f : S8x2x512.Idx → Elt F .f32) :
    ((landM c).view.loc (p : Thread nD τ) ↦[(landM c).view.set]{fullShare}
        ((landM c).view.write (Elt F) f (ownM.view.read (Elt F) (v c)) Finset.univ) : sProp 𝕄) = rowPts p c (gatheredPairs v) :=
  pointsTo_congr (landed_row c f v)

theorem run_sends (k : Pg F) (W : Waits sig Unit) : ∀ (l : List (Dev nD × Fin 8)), (∀ p ∈ l, p.1 ≠ c ∧ p.2 ≠ 0) →
    iprop(facts v K ∗ owes (c : Thread nD τ) (sendDebt c (l.map Prod.fst)) W ∗ each (sendNeeds v c) l)
      ⊢ iprop(((owes (c : Thread nD τ) 0 W ∗ each (fun p => cred (tallyAt (sendCell c p.2) () N)) l) -∗ Runs c k Q) -∗ Runs c (sends c k l) Q)
  | [], _ => by
    unfold sends each
    rw [show sendDebt c (List.map Prod.fst ([] : List (Dev nD × Fin 8))) = 0 from rfl]
    iintro ⟨-, HO, He⟩ Hk
    iapply Hk
    isplitl [HO] <;> iassumption
  | p :: l, h => by
    unfold sends each
    rw [show sendDebt c (List.map Prod.fst (p :: l)) = sendDebt c (List.map Prod.fst l) + tallyAt (recvCell p.1 c) () N from rfl]
    have ih := run_sends k W l fun q hq => h q (List.mem_cons_of_mem _ hq)
    obtain ⟨h1, h2⟩ := h p (List.mem_cons_self ..)
    unfold sendNeeds barPay rowPts ownPts at ih ⊢
    iintro ⟨#Hf, HO, ⟨Ht, Ht', ⟨%f, Hr⟩, Hs⟩, Hl⟩ Hk
    iapply (Rounds.wp_send_pointsTo 𝒱₀ ER (sched v) (c : Thread nD τ) none (c' := (p.1 : Thread nD τ)) (src := ownM) (dst := landM c)
      (sS := .dma (sendSm p.2)) (sem := .dma (landSm c)) (κ₁ := K (c, .inr (.inl p.2))) (κ₂ := K (p.1, .inr (.inr c)))
      (r₁ := 0) (r₂ := 0) (d₁ := c) (d₂ := c) (fs := v c) (fd := f)
      (by rw [duties_send v c h2]; exact Finset.mem_singleton_self _)
      (by rw [duties_recv v p.1 h1.symm]; exact Finset.mem_singleton_self _)
      () () N ((View.amount_dma _ _).trans (landM_credit c)) (amount_cell v c (.inr (.inl p.2)) 0 c) (amount_cell v p.1 (.inr (.inr c)) 0 c)
      (sendDebt c (List.map Prod.fst l)) rfl
      (by rw [payload_cell v c (.inr (.inl p.2))]; exact BI.Entails.refl _)
      (by rw [payload_cell v p.1 (.inr (.inr c)), landed_row_pts]; exact BI.Entails.refl _)) $$ [HO Ht Ht' Hr Hs]
    · isplitr; · iapply (facts_inv v K (c, .inr (.inl p.2))); iexact Hf
      isplitr; · iapply (facts_inv v K (p.1, .inr (.inr c))); iexact Hf
      isplitl [Hs]; · iexact Hs
      isplitl [Hr]; · iexact Hr
      isplitl [HO]; · iexact HO
      isplitl [Ht]; · iexact Ht
      isplitr; · iapply (facts_reached v K (c, .inr (.inl p.2))); iexact Hf
      isplitl [Ht']; · iexact Ht'
      iapply (facts_reached v K (p.1, .inr (.inr c))); iexact Hf
    iintro ⟨Hc, HO⟩
    iapply ih $$ [HO Hl]
    · isplitr; · iexact Hf
      isplitl [HO] <;> iassumption
    iintro ⟨HO, Hl⟩
    iapply Hk
    isplitl [HO]; · iexact HO
    isplitl [Hc] <;> iassumption

/-! ## The waits of the exchange -/

/-- The device a receive wait waits for. -/
abbrev fromDev (r : Fin 7) : Dev nD := c + (⟨1 + r.val, by omega⟩ : Fin 8)
theorem fromDev_ne (r : Fin 7) : fromDev c r ≠ c := by revert c r; decide +kernel

theorem run_recvWaits (k : Pg F) : ∀ (l : List (Fin 7)) (W : Waits sig Unit),
    iprop(facts v K ∗ owes (c : Thread nD τ) 0 W
        ∗ each (fun r => iprop(cred (tallyAt (recvCell c (fromDev c r)) () N) ∗ atPos ER (recvCell c (fromDev c r)) 0 ∅ 0)) l)
      ⊢ iprop((((∃ W', owes (c : Thread nD τ) 0 W')
            ∗ each (fun r => iprop(rowPts c (fromDev c r) (gatheredPairs v) ∗ semVal (recvCell c (fromDev c r)) 0)) l) -∗ Runs c k Q)
          -∗ Runs c (recvWaits c k l) Q)
  | [], W => by
    unfold recvWaits each
    iintro ⟨-, HO, He⟩ Hk
    iapply Hk
    isplitl [HO]; · iexists W; iexact HO
    iexact He
  | r :: l, W => by
    unfold recvWaits each
    rw [fromSm_eq c r]
    iintro ⟨#Hf, HO, ⟨Hc, Hat⟩, Hl⟩ Hk
    iapply (Rounds.wp_wait_rest_token 𝒱₀ ER (sched v) (c : Thread nD τ) none (κ := K (c, .inr (.inr (fromDev c r))))
      (wpE_waitDma2_eq 𝒱₀ (c : Thread nD τ) none Set.univ) (Set.mem_univ _) () (O := 0) (W := W) (R := 0) (m := 0) (T := ∅)
      (by rw [Nat.zero_add, expect_recv v c (fromDev_ne c r)])) $$ [Hc HO Hat]
    · isplitr; · iapply (facts_inv v K (c, .inr (.inr (fromDev c r)))); iexact Hf
      isplitl [Hc]; · iexact Hc
      isplitl [HO]; · iexact HO
      isplitr; · rw [MayWait_zero]; iempintro
      iexact Hat
    iintro ⟨HO, Hat, -, Hpay⟩
    ihave Hp := (Entails.of_eq (rest_recv v c (fromDev_ne c r))) $$ Hpay
    imod (Rounds.cell_close ER (sched v) (Set.mem_univ (K (c, .inr (.inr (fromDev c r))))) (fun h => h) (R := 0 + 1)
      (duties_later v (recvCell c (fromDev c r)))) $$ [Hat] with Hz
    · isplitr; · iapply (facts_inv v K (c, .inr (.inr (fromDev c r)))); iexact Hf
      iexact Hat
    iapply (run_recvWaits k l _) $$ [HO Hl]
    · isplitr; · iexact Hf
      isplitl [HO] <;> iassumption
    iintro ⟨HO, Hl⟩
    iapply Hk
    isplitl [HO]; · iexact HO
    isplitl [Hp Hz]
    · isplitl [Hp] <;> iassumption
    iexact Hl

theorem run_sendWaits (k : Pg F) : ∀ (l : List (Fin 8)) (W : Waits sig Unit), (∀ d ∈ l, d ≠ 0) →
    iprop(facts v K ∗ owes (c : Thread nD τ) 0 W
        ∗ each (fun d => iprop(cred (tallyAt (sendCell c d) () N) ∗ atPos ER (sendCell c d) 0 ∅ 0)) l)
      ⊢ iprop((((∃ W', owes (c : Thread nD τ) 0 W')
            ∗ each (fun d => iprop(ownPts c (Transfers.shareTok fullShare 8 d) (v c) ∗ semVal (sendCell c d) 0)) l) -∗ Runs c k Q)
          -∗ Runs c (sendWaits c k l) Q)
  | [], W, _ => by
    unfold sendWaits each
    iintro ⟨-, HO, He⟩ Hk
    iapply Hk
    isplitl [HO]; · iexists W; iexact HO
    iexact He
  | d :: l, W, h => by
    unfold sendWaits each
    have hd := h d (List.mem_cons_self ..)
    iintro ⟨#Hf, HO, ⟨Hc, Hat⟩, Hl⟩ Hk
    iapply (Rounds.wp_wait_rest_token 𝒱₀ ER (sched v) (c : Thread nD τ) none (κ := K (c, .inr (.inl d)))
      (wpE_waitDma2_eq 𝒱₀ (c : Thread nD τ) none Set.univ) (Set.mem_univ _) () (O := 0) (W := W) (R := 0) (m := 0) (T := ∅)
      (by rw [Nat.zero_add, expect_send v c hd])) $$ [Hc HO Hat]
    · isplitr; · iapply (facts_inv v K (c, .inr (.inl d))); iexact Hf
      isplitl [Hc]; · iexact Hc
      isplitl [HO]; · iexact HO
      isplitr; · rw [MayWait_zero]; iempintro
      iexact Hat
    iintro ⟨HO, Hat, -, Hpay⟩
    ihave Hp := (Entails.of_eq (rest_send v c hd)) $$ Hpay
    imod (Rounds.cell_close ER (sched v) (Set.mem_univ (K (c, .inr (.inl d)))) (fun h => h) (R := 0 + 1)
      (duties_later v (sendCell c d))) $$ [Hat] with Hz
    · isplitr; · iapply (facts_inv v K (c, .inr (.inl d))); iexact Hf
      iexact Hat
    iapply (run_sendWaits k l _ fun e he => h e (List.mem_cons_of_mem _ he)) $$ [HO Hl]
    · isplitr; · iexact Hf
      isplitl [HO] <;> iassumption
    iintro ⟨HO, Hl⟩
    iapply Hk
    isplitl [HO]; · iexact HO
    isplitl [Hp Hz]
    · isplitl [Hp] <;> iassumption
    iexact Hl

end Cert.Run

end
-- ==== Proof.Whole.lean ====
/-
The device's whole program: from what the launch hands the device to its result, every buffer and semaphore back.
-/
module

public import proofs.«01_k».proof.Proof.Steps

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## The result does not read the device's own row -/

theorem idw_eq (c : Dev nD) (s : Fin 8) : (BitVec.ofNat 32 s.val == idw c) = decide (s = c) := by revert c s; decide +kernel

/-- Of the pairs of all devices the program takes its own from the buffer it computed it in. -/
theorem chosen_at (c : Dev nD) (f : S8x2x512.Idx → Elt F .f32) (own : S1x2x512.Idx → Elt F .f32) (i : S8x2x512.Idx) :
    k0_pay32 (idw c) f own i = if (i 0).val = c.val then own (ix3 0 ⟨(i 1).val, (i 1).isLt⟩ ⟨(i 2).val, (i 2).isLt⟩) else f i := by
  have hw : IntOp.cmpi .eq (iota .tc S8x2x512 32 [0] iota_S8x2x512_d0_w32 i) (idw c) = BitVec.ofBool (decide ((i 0).val = c.val)) := by
    rw [iota_single_apply]
    show BitVec.ofBool (BitVec.ofNat 32 (i 0).val == idw c) = _
    rw [show (BitVec.ofNat 32 (i 0).val == idw c) = decide ((show Fin 8 from i 0) = c) from idw_eq c (i 0)]
    congr 1
    exact decide_eq_decide.mpr ⟨fun h => congrArg Fin.val h, fun h => Fin.ext h⟩
  have hb : broadcastTo S8x2x512 own broadcasts_S1x2x512_S8x2x512 i = own (ix3 0 ⟨(i 1).val, (i 1).isLt⟩ ⟨(i 2).val, (i 2).isLt⟩) :=
    broadcastTo_apply own _ i _ (fun a => by fin_cases a <;> rfl)
  show Scalar.select (IntOp.cmpi .eq (iota .tc S8x2x512 32 [0] iota_S8x2x512_d0_w32 i) (idw c))
    (broadcastTo S8x2x512 (shapeCast S1x2x512 own shapeCasts_S1x2x512_S1x2x512) broadcasts_S1x2x512_S8x2x512 i) (f i) = _
  rw [shapeCast_self, hw, hb]
  by_cases h : (i 0).val = c.val
  · rw [if_pos h, decide_eq_true h]; rfl
  · rw [if_neg h, decide_eq_false h]; rfl

/-- `f` on row `c`, `g` elsewhere. -/
def overlay (c : Dev nD) (f g : S8x2x512.Idx → Elt F .f32) : S8x2x512.Idx → Elt F .f32 := fun i => if (i 0).val = c.val then f i else g i

theorem final_overlay (c : Dev nD) (f g : S8x2x512.Idx → Elt F .f32) (own : S1x2x512.Idx → Elt F .f32) :
    final c (overlay c f g) own = final c g own := by
  have h : k0_pay32 (idw c) (overlay c f g) own = k0_pay32 (idw c) g own := by
    funext i
    rw [chosen_at, chosen_at]
    by_cases e : (i 0).val = c.val
    · rw [if_pos e, if_pos e]
    · rw [if_neg e, if_neg e]; exact if_neg e
  unfold final k0_pay33 k0_pay34
  rw [h]

/-! ## Lists and sets -/

theorem others_each (c : Dev nD) (Φ : Dev nD → sProp 𝕄) : bigSep Finset.univ Φ = iprop(Φ c ∗ each Φ (others c)) := by
  rw [bigSep_univ_at Φ c, ← others_set, each_of_set _ _ (others_nodup c)]
theorem far_each (Φ : Fin 8 → sProp 𝕄) : bigSep Finset.univ Φ = iprop(Φ 0 ∗ each Φ [1, 2, 3, 4, 5, 6, 7]) := by
  rw [bigSep_univ_at Φ 0, ← each_of_set _ _ (by decide)]; rfl
theorem all_each (Φ : Fin 8 → sProp 𝕄) : bigSep Finset.univ Φ = each Φ [0, 1, 2, 3, 4, 5, 6, 7] := by
  rw [← each_of_set _ _ (by decide)]; rfl
theorem four_each (Φ : Fin 4 → sProp 𝕄) : bigSep Finset.univ Φ = each Φ [0, 1, 2, 3] := by
  rw [← each_of_set _ _ (by decide)]; rfl
theorem pieces_each (Φ : Fin 8 × Fin 4 → sProp 𝕄) : bigSep Finset.univ Φ = each Φ pieces := by
  rw [← each_of_set _ _ (by decide)]; rfl
theorem nested_each (Φ : Fin 8 × Fin 4 → sProp 𝕄) :
    bigSep Finset.univ Φ = iprop(each (fun s => Φ (0, s)) [0, 1, 2, 3] ∗ each (fun j => each (fun s => Φ (j, s)) [0, 1, 2, 3]) [1, 2, 3, 4, 5, 6, 7]) := by
  rw [bigSep_univ_prod, far_each, four_each]
  have e (j : Fin 8) : (bigSep Finset.univ fun s => Φ (j, s)) = each (fun s => Φ (j, s)) [0, 1, 2, 3] := four_each _
  simp only [e]

variable (v : Dev nD → S1x2x512.Idx → Elt F .f32) (c : Dev nD)

/-! ## Buffers whole and in pieces -/

theorem rows_split (f : S8x2x512.Idx → Elt F .f32) :
    (((c : Thread nD τ).loc cc0_scratch2) ↦{fullShare} f : sProp 𝕄) = bigSep Finset.univ fun s => rowPts c s f :=
  Ring.pointsTo_blocks (ℓ := allM.view.loc (c : Thread nD τ)) (fun s : Fin 8 => rowSet s) row_disjoint row_cover f

theorem rows_join (f : S8x2x512.Idx → Elt F .f32) :
    iprop(rowPts c c f ∗ each (fun s => rowPts c s (gatheredPairs v)) (others c))
      ⊢ (((c : Thread nD τ).loc cc0_scratch2) ↦{fullShare} overlay c f (gatheredPairs v) : sProp 𝕄) := by
  rw [rows_split, others_each c]
  have h0 : rowPts c c f = rowPts (F := F) c c (overlay c f (gatheredPairs v)) :=
    pointsTo_congr fun i hi => (if_pos (congrArg Fin.val ((mem_row c i).mp hi))).symm
  rw [h0]
  refine BI.sep_mono (BI.Entails.refl _) (each_mono fun s hs => Entails.of_eq ?_)
  exact pointsTo_congr fun i hi => (if_neg fun e => (others_mem c s).mp hs (((mem_row s i).mp hi).symm.trans (Fin.ext e))).symm

theorem pieces_split (f : S8x1024x1024.Idx → Elt F .f32) :
    (((c : Thread nD τ).loc cc0_scratch0) ↦{fullShare} f : sProp 𝕄) = bigSep Finset.univ fun p => piecePts c p f :=
  Ring.pointsTo_blocks (ℓ := wbM.view.loc (c : Thread nD τ)) (fun p : Fin 8 × Fin 4 => pieceSet p.1 p.2) piece_disjoint piece_cover f
theorem src_split (w : S1024x8192.Idx → Elt F .f32) :
    (((c : Thread nD τ).loc main_arg1) ↦{fullShare} w : sProp 𝕄) = bigSep Finset.univ fun p => srcPts c p w :=
  Ring.pointsTo_blocks (ℓ := wM.view.loc (c : Thread nD τ)) (fun p : Fin 8 × Fin 4 => srcSet p.1 p.2) src_disjoint src_cover w

theorem ownPts_whole (q : PosShare TreeShare) (f : S1x2x512.Idx → Elt F .f32) :
    ownPts c q f = (((c : Thread nD τ).loc cc0_scratch1) ↦{q} f : sProp 𝕄) := by unfold ownPts; rw [View.set_whole]
theorem own_toks (f : S1x2x512.Idx → Elt F .f32) :
    ownPts c fullShare f ⊣⊢ (iprop(ownPts c (Transfers.shareDrop fullShare 8) f
        ∗ ownPts c (Transfers.shareTok fullShare 8 0) f ∗ each (fun d => ownPts c (Transfers.shareTok fullShare 8 d) f) [1, 2, 3, 4, 5, 6, 7]) : sProp 𝕄) := by
  rw [← far_each (fun d => ownPts c (Transfers.shareTok fullShare 8 d) f)]
  exact Transfers.pointsTo_toks (ℓ := ownM.view.loc (c : Thread nD τ)) (S := ownM.view.set) (f := f) fullShare 8

end Cert.Run

end
-- ==== Proof.Body.lean ====
/-
The device's program in three stages, from its end to its start: from the receive waits on, from the store of the
device's own pair on, and from the first signal on.
-/
module

public import proofs.«01_k».proof.Proof.Whole

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (v : Dev nD → S1x2x512.Idx → Elt F .f32) (K : Dev nD × Slot → ℕ) (c : Dev nD) {Q : PUnit → sProp (MT nD τ sig Unit (Elt F) ℕ UU ℕ)}

theorem zero2 : (![0, 0] : Fin 2 → Nat) = fun _ => 0 := funext fun a => by fin_cases a <;> rfl
theorem zero3 : (![0, 0, 0] : Fin 3 → Nat) = fun _ => 0 := funext fun a => by fin_cases a <;> rfl

theorem read_x (f : S512x1024.Idx → Elt F .f32) : xM.view.readAt (Elt F) rX.toLoadRect f = f :=
  Memref.readAt_unit_zero (Elt F) cc0_stg0_0 zero2 _ f
theorem read_lab (f : S1x512.Idx → Elt F .i32) : labM.view.readAt (Elt F) rRow.toLoadRect f = f :=
  Memref.readAt_unit_zero (Elt F) cc0_stg1_0 zero2 _ f
theorem read_own (f : S1x2x512.Idx → Elt F .f32) : ownM.view.readAt (Elt F) rOwn.toLoadRect f = f :=
  Memref.readAt_unit_zero (Elt F) cc0_scratch1 zero3 _ f
theorem read_all (f : S8x2x512.Idx → Elt F .f32) : allM.view.readAt (Elt F) rAll.toLoadRect f = f :=
  Memref.readAt_unit_zero (Elt F) cc0_scratch2 zero3 _ f
theorem write_own (f w : S1x2x512.Idx → Elt F .f32) : (ownM.access rOwn : View sig .tc _ _ _).write (Elt F) f w Finset.univ = w :=
  Memref.write_access_unit_zero_univ (Elt F) cc0_scratch1 zero3 _ f w
theorem write_out (f w : S1x512.Idx → Elt F .f32) : (outM.access rRow : View sig .tc _ _ _).write (Elt F) f w Finset.univ = w :=
  Memref.write_access_unit_zero_univ (Elt F) cc0_stg2_0 zero2 _ f w

theorem some_pts {A : Type} (Φ : A → sProp 𝕄) (a : A) : Φ a ⊢ iprop(∃ a, Φ a) := by iintro H; iexists a; iexact H

/-! ## From the receive waits on -/

/-- A device's cells of the exchange, all at rest. -/
def cellsRest : sProp 𝕄 :=
  iprop((bigSep Finset.univ fun d => semVal (sendCell c d) 0) ∗ bigSep Finset.univ fun s => semVal (recvCell c s) 0)

def collectPre : sProp 𝕄 :=
  iprop(facts v K
    ∗ each (fun s => iprop(cred (tallyAt (recvCell c s) () N) ∗ atPos ER (recvCell c s) 0 ∅ 0)) (others c)
    ∗ each (fun d => iprop(cred (tallyAt (sendCell c d) () N) ∗ atPos ER (sendCell c d) 0 ∅ 0)) [1, 2, 3, 4, 5, 6, 7]
    ∗ atPos ER (recvCell c c) 0 ∅ 0 ∗ atPos ER (sendCell c 0) 0 ∅ 0
    ∗ (∃ f, rowPts (F := F) c c f)
    ∗ ownPts c (Transfers.shareDrop fullShare 8) (v c) ∗ ownPts c (Transfers.shareTok fullShare 8 0) (v c)
    ∗ ∃ g, ((c : Thread nD τ).loc cc0_stg2_0) ↦{fullShare} g)

def collectPost : sProp 𝕄 :=
  iprop((∃ W, owes (c : Thread nD τ) 0 W) ∗ (((c : Thread nD τ).loc cc0_stg2_0) ↦{fullShare} (final c (gatheredPairs v) (v c)))
    ∗ (∃ f, ((c : Thread nD τ).loc cc0_scratch1) ↦{fullShare} f) ∗ (∃ f, ((c : Thread nD τ).loc cc0_scratch2) ↦{fullShare} f) ∗ cellsRest (F := F) c)

theorem run_collect (W : Waits sig Unit) :
    iprop(owes (c : Thread nD τ) 0 W ∗ collectPre v K c) ⊢ iprop((collectPost v c -∗ Q ⟨⟩) -∗ Runs c (collect c) Q) := by
  unfold collect collectPre
  iintro ⟨HO, #Hf, Hr, Hs, Ha, Hb, ⟨%f, Hrow⟩, Hdrop, Htok, ⟨%g, Hout⟩⟩ Hk
  iapply (run_recvWaits v K c _ [0, 1, 2, 3, 4, 5, 6] W) $$ [HO Hr]
  · isplitr; · iexact Hf
    isplitl [HO]; · iexact HO
    iexact Hr
  iintro ⟨⟨%W', HO⟩, Hr⟩
  ihave Hr' := (each_unsep (fun r => rowPts c (fromDev c r) (gatheredPairs v)) (fun r => semVal (recvCell c (fromDev c r)) 0) [0, 1, 2, 3, 4, 5, 6]) $$ Hr
  icases Hr' with ⟨Hrows, Hrz⟩
  iapply (run_sendWaits v K c _ [1, 2, 3, 4, 5, 6, 7] W' (by decide)) $$ [HO Hs]
  · isplitr; · iexact Hf
    isplitl [HO] <;> iassumption
  iintro ⟨HO, Hs⟩
  ihave Hs' := (each_unsep (fun d => ownPts c (Transfers.shareTok fullShare 8 d) (v c)) (fun d => semVal (sendCell c d) 0) [1, 2, 3, 4, 5, 6, 7]) $$ Hs
  icases Hs' with ⟨Htoks, Hsz⟩
  imod (Rounds.cell_close ER (sched v) (Set.mem_univ (K (c, .inr (.inl 0)))) (fun h => h) (R := 0) (duties_send0 v c)) $$ [Hb] with Hz0
  · isplitr; · iapply (facts_inv v K (c, .inr (.inl 0))); iexact Hf
    iexact Hb
  imod (Rounds.cell_close ER (sched v) (Set.mem_univ (K (c, .inr (.inr c)))) (fun h => h) (R := 0) (duties_recvSelf v c)) $$ [Ha] with Hzc
  · isplitr; · iapply (facts_inv v K (c, .inr (.inr c))); iexact Hf
    iexact Ha
  ihave Hall := (rows_join v c f) $$ [Hrow Hrows]
  · isplitl [Hrow]; · iexact Hrow
    iexact Hrows
  ihave Hown := ((own_toks c (v c)).2.trans (Entails.of_eq (ownPts_whole c fullShare (v c)))) $$ [Hdrop Htok Htoks]
  · isplitl [Hdrop]; · iexact Hdrop
    isplitl [Htok] <;> iassumption
  iapply (wp_load 𝒱₀ (c : Thread nD τ) none Set.univ (m := allM) (Finset.subset_univ _)) $$ Hall; iintro Hall
  rw [read_all]
  iapply (wp_load 𝒱₀ (c : Thread nD τ) none Set.univ (m := ownM) (Finset.subset_univ _)) $$ Hown; iintro Hown
  rw [read_own]
  iapply (wp_load 𝒱₀ (c : Thread nD τ) none Set.univ (m := outM) (Finset.subset_univ _)) $$ Hout; iintro Hout
  iapply (wp_store 𝒱₀ (c : Thread nD τ) none Set.univ (m := outM) (r := rRow) (Mk := Finset.univ) (Finset.subset_univ _)) $$ Hout; iintro Hout
  rw [write_out, final_overlay, wp_ret]; imodintro
  iapply Hk
  unfold collectPost cellsRest
  isplitl [HO]; · iexact HO
  isplitl [Hout]; · iexact Hout
  isplitl [Hown]; · iexists _; iexact Hown
  isplitl [Hall]; · iexists _; iexact Hall
  rw [far_each (fun d => semVal (sendCell c d) 0), others_each c (fun s => semVal (recvCell c s) 0)]
  isplitl [Hz0 Hsz]
  · isplitl [Hz0]; · iexact Hz0
    iexact Hsz
  isplitl [Hzc]; · iexact Hzc
  iexact Hrz

/-! ## From the store of the device's own pair on -/

/-- The tokens a device pays with: one for every other device's barrier, one for its receive semaphore there, one for each of its own send semaphores. -/
def exchangePre : sProp 𝕄 :=
  iprop(facts v K ∗ levAts L lv
    ∗ cred (tallyAt (barCell c) () 7) ∗ atPos ER (barCell c) 0 ∅ 0
    ∗ each (fun d => dutyTok ER (sendCell c d) 0 c) [1, 2, 3, 4, 5, 6, 7] ∗ each (fun s => dutyTok ER (recvCell s c) 0 c) (others c)
    ∗ each (fun s => iprop(cred (tallyAt (recvCell c s) () N) ∗ atPos ER (recvCell c s) 0 ∅ 0)) (others c)
    ∗ each (fun d => atPos ER (sendCell c d) 0 ∅ 0) [1, 2, 3, 4, 5, 6, 7]
    ∗ atPos ER (recvCell c c) 0 ∅ 0 ∗ atPos ER (sendCell c 0) 0 ∅ 0
    ∗ (∃ f, rowPts (F := F) c c f)
    ∗ (∃ f, ((c : Thread nD τ).loc cc0_scratch1) ↦{fullShare} f)
    ∗ ∃ g, ((c : Thread nD τ).loc cc0_stg2_0) ↦{fullShare} g)

theorem needs_all :
    iprop(each (fun d => dutyTok ER (sendCell c d) 0 c) [1, 2, 3, 4, 5, 6, 7] ∗ each (fun s => dutyTok ER (recvCell s c) 0 c) (others c)
        ∗ each (fun s => barPay (F := F) c s) (others c) ∗ each (fun d => ownPts c (Transfers.shareTok fullShare 8 d) (v c)) [1, 2, 3, 4, 5, 6, 7])
      ⊢ each (sendNeeds v c) (targets c) := by
  rw [targets_eq]
  refine (BI.sep_mono (BI.Entails.refl _) (BI.sep_mono (BI.Entails.refl _)
    (each_sep (fun p : Dev nD × Fin 8 => barPay (F := F) c p.1) (fun p => ownPts c (Transfers.shareTok fullShare 8 p.2) (v c)) ((others c).zip [1, 2, 3, 4, 5, 6, 7])))).trans ?_
  refine (BI.sep_mono (BI.Entails.refl _) (each_sep (fun p : Dev nD × Fin 8 => dutyTok ER (recvCell p.1 c) 0 c) _ ((others c).zip [1, 2, 3, 4, 5, 6, 7]))).trans ?_
  exact each_sep (fun p : Dev nD × Fin 8 => dutyTok ER (sendCell c p.2) 0 c) _ ((others c).zip [1, 2, 3, 4, 5, 6, 7])

theorem targets_far : ∀ p ∈ targets c, p.1 ≠ c ∧ p.2 ≠ 0 := by revert c; decide +kernel

theorem run_exchange (a : FVec F S512 .f32 × FVec F S512 .f32) (ha : v c = pair a.1 a.2) (W : Waits sig Unit) :
    iprop(owes (c : Thread nD τ) (sendDebt c (others c)) W ∗ exchangePre v K c)
      ⊢ iprop((iprop(collectPost v c ∗ semVal (barCell c) 0) -∗ Q ⟨⟩) -∗ Runs c (exchange c a) Q) := by
  unfold exchange exchangePre
  iintro ⟨HO, #Hf, #Hlev, HcB, HatB, HtS, HtR, Hr, HatS, Ha, Hb, Hrow, ⟨%f, Hown⟩, Hout⟩ Hk
  iapply (wp_load 𝒱₀ (c : Thread nD τ) none Set.univ (m := ownM) (Finset.subset_univ _)) $$ Hown; iintro Hown
  iapply (wp_store 𝒱₀ (c : Thread nD τ) none Set.univ (m := ownM) (r := rOwn) (Mk := Finset.univ) (Finset.subset_univ _)) $$ Hown; iintro Hown
  rw [write_own, ← ha]
  iapply (Rounds.wp_wait_rest_token 𝒱₀ ER (sched v) (c : Thread nD τ) none (κ := K (c, .inl ()))
      (wpE_semWait_eq 𝒱₀ (c : Thread nD τ) none Set.univ) (Set.mem_univ _) () (O := sendDebt c (others c)) (W := W) (R := 0) (m := 0) (T := ∅)
      (by rw [expect_bar]; decide)) $$ [HcB HO HatB]
  · isplitr; · iapply (facts_inv v K (c, .inl ())); iexact Hf
    isplitl [HcB]; · iexact HcB
    isplitl [HO]; · iexact HO
    isplitr; · iapply (mayWait_bar c); iexact Hlev
    iexact HatB
  iintro ⟨HO, HatB, -, Hpay⟩
  ihave Hp := (Entails.of_eq ((rest_bar v c).trans (by rw [← others_set, each_of_set _ _ (others_nodup c)]))) $$ Hpay
  imod (Rounds.cell_close ER (sched v) (Set.mem_univ (K (c, .inl ()))) (fun h => h) (R := 0 + 1) (duties_later v (barCell c))) $$ [HatB] with HzB
  · isplitr; · iapply (facts_inv v K (c, .inl ())); iexact Hf
    iexact HatB
  ihave Hown' := ((Entails.of_eq (ownPts_whole c fullShare (v c)).symm).trans (own_toks c (v c)).1) $$ Hown
  icases Hown' with ⟨Hdrop, Htok, Htoks⟩
  ihave Hn := (needs_all v c) $$ [HtS HtR Hp Htoks]
  · isplitl [HtS]; · iexact HtS
    isplitl [HtR]; · iexact HtR
    isplitl [Hp] <;> iassumption
  iapply (run_sends v K c _ _ (targets c) (targets_far c)) $$ [HO Hn]
  · isplitr; · iexact Hf
    isplitl [HO]; · rw [targets_eq]; iexact HO
    iexact Hn
  iintro ⟨HO, Hc⟩
  iapply (run_collect v K c _) $$ [HO Hr HatS Hc Ha Hb Hrow Hdrop Htok Hout]
  · isplitl [HO]; · iexact HO
    unfold collectPre
    isplitr; · iexact Hf
    isplitl [Hr]; · iexact Hr
    isplitl [Hc HatS]
    · iapply (each_sep (fun d => cred (tallyAt (sendCell c d) () N)) (fun d => atPos ER (sendCell c d) 0 ∅ 0) [1, 2, 3, 4, 5, 6, 7])
      isplitl [Hc]; · iexact Hc
      iexact HatS
    isplitl [Ha]; · iexact Ha
    isplitl [Hb]; · iexact Hb
    isplitl [Hrow]; · iexact Hrow
    isplitl [Hdrop]; · iexact Hdrop
    isplitl [Htok]; · iexact Htok
    iexact Hout
  iintro H
  iapply Hk
  isplitl [H] <;> iassumption

/-! ## From the first signal on -/

/-- The sums of the device's eight chunks, stacked: its own pair. -/
def total (x : FVec F S512x1024 .f32) (lab : IVec S512 32) (w : S1024x8192.Idx → Elt F .f32) : FVec F S512 .f32 × FVec F S512 .f32 :=
  sums c x lab w [1, 2, 3, 4, 5, 6, 7] (expSum x (chunkVal w 0), hitSum (idw c) x lab 0 (chunkVal w 0))
def ownPair (x : FVec F S512x1024 .f32) (lab : IVec S512 32) (w : S1024x8192.Idx → Elt F .f32) : S1x2x512.Idx → Elt F .f32 :=
  pair (total c x lab w).1 (total c x lab w).2

def progPre (x : S512x1024.Idx → Elt F .f32) (lab : S1x512.Idx → Elt F .i32) (w : S1024x8192.Idx → Elt F .f32) : sProp 𝕄 :=
  iprop(facts v K ∗ levAts L lv
    ∗ cred (tallyAt (barCell c) () 7) ∗ (bigSep (Finset.univ.erase c) fun s => cred (tallyAt (recvCell c s) () N))
    ∗ atPos ER (barCell c) 0 ∅ 0 ∗ (bigSep Finset.univ fun d => atPos ER (sendCell c d) 0 ∅ 0) ∗ (bigSep Finset.univ fun s => atPos ER (recvCell c s) 0 ∅ 0)
    ∗ (bigSep Finset.univ fun s => dutyTok ER (barCell s) 0 c) ∗ (bigSep Finset.univ fun d => dutyTok ER (sendCell c d) 0 c)
    ∗ (bigSep Finset.univ fun s => dutyTok ER (recvCell s c) 0 c)
    ∗ (bigSep Finset.univ fun p => restPts (F := F) c p)
    ∗ (∃ f, ((c : Thread nD τ).loc cc0_scratch0) ↦{fullShare} f)
    ∗ (∃ f, ((c : Thread nD τ).loc cc0_scratch1) ↦{fullShare} f)
    ∗ (∃ f, ((c : Thread nD τ).loc cc0_scratch2) ↦{fullShare} f)
    ∗ (((c : Thread nD τ).loc main_arg1) ↦{fullShare} w)
    ∗ (((c : Thread nD τ).loc cc0_stg0_0) ↦{fullShare} x) ∗ (((c : Thread nD τ).loc cc0_stg1_0) ↦{fullShare} lab)
    ∗ ∃ g, ((c : Thread nD τ).loc cc0_stg2_0) ↦{fullShare} g)

def progPost (x : S512x1024.Idx → Elt F .f32) (lab : S1x512.Idx → Elt F .i32) (w : S1024x8192.Idx → Elt F .f32) : sProp 𝕄 :=
  iprop(collectPost v c ∗ semVal (barCell c) 0
    ∗ (∃ f, ((c : Thread nD τ).loc cc0_scratch0) ↦{fullShare} f) ∗ (((c : Thread nD τ).loc main_arg1) ↦{fullShare} w)
    ∗ (bigSep Finset.univ fun p => restPts (F := F) c p)
    ∗ (((c : Thread nD τ).loc cc0_stg0_0) ↦{fullShare} x) ∗ (((c : Thread nD τ).loc cc0_stg1_0) ↦{fullShare} lab))

/-- All pieces landed: the chunk buffer whole, `W` whole, the semaphores at rest. -/
theorem arrived_all (w : S1024x8192.Idx → Elt F .f32) :
    iprop(each (fun s => arrived c w (0, s)) [0, 1, 2, 3] ∗ each (fun j => each (fun s => arrived c w (j, s)) [0, 1, 2, 3]) [1, 2, 3, 4, 5, 6, 7])
      ⊢ iprop((((c : Thread nD τ).loc cc0_scratch0) ↦{fullShare} gathered w) ∗ (((c : Thread nD τ).loc main_arg1) ↦{fullShare} w)
          ∗ bigSep Finset.univ fun p => restPts (F := F) c p) := by
  rw [← nested_each (fun p => arrived c w p), pieces_split, src_split]
  unfold arrived
  rw [bigSep_sep', bigSep_sep']

/-- The chunk buffer and `W` taken apart for the local copies. -/
theorem starts_all (f : S8x1024x1024.Idx → Elt F .f32) (w : S1024x8192.Idx → Elt F .f32) :
    iprop((((c : Thread nD τ).loc cc0_scratch0) ↦{fullShare} f) ∗ (((c : Thread nD τ).loc main_arg1) ↦{fullShare} w)
          ∗ bigSep Finset.univ fun p => restPts (F := F) c p)
      ⊢ each (fun p => iprop((∃ f, piecePts (F := F) c p f) ∗ srcPts c p w ∗ restPts (F := F) c p)) pieces := by
  rw [pieces_split, src_split, ← bigSep_sep', ← bigSep_sep', pieces_each]
  exact each_mono fun p _ => BI.sep_mono (some_pts (fun f => piecePts (F := F) c p f) f) (BI.Entails.refl _)

/-- The buffer of the pairs taken apart: its own row, the others' for the signals. -/
theorem rows_give (f : S8x2x512.Idx → Elt F .f32) :
    (((c : Thread nD τ).loc cc0_scratch2) ↦{fullShare} f : sProp 𝕄)
      ⊢ iprop((∃ f, rowPts (F := F) c c f) ∗ each (fun p => iprop(∃ f, rowPts (F := F) c p f)) (others c)) := by
  rw [rows_split, others_each c]
  exact BI.sep_mono (some_pts (fun f => rowPts (F := F) c c f) f) (each_mono fun p _ => some_pts (fun f => rowPts (F := F) c p f) f)

theorem run_prog (x : S512x1024.Idx → Elt F .f32) (lab : S1x512.Idx → Elt F .i32) (w : S1024x8192.Idx → Elt F .f32)
    (hv : v c = ownPair c (k0_pay2 x) (k0_pay3 lab) w) (W : Waits sig Unit) :
    iprop(owes (c : Thread nD τ) (O₀ c) W ∗ progPre v K c x lab w)
      ⊢ iprop((progPost v c x lab w -∗ Q ⟨⟩) -∗ Runs c (prog c) Q) := by
  unfold prog progPre
  rw [others_each c (fun s => dutyTok ER (barCell s) 0 c), others_each c (fun s => dutyTok ER (recvCell s c) 0 c),
    others_each c (fun s => atPos ER (recvCell c s) 0 ∅ 0), far_each (fun d => atPos ER (sendCell c d) 0 ∅ 0),
    far_each (fun d => dutyTok ER (sendCell c d) 0 c), ← others_set, each_of_set _ _ (others_nodup c), peers_eq]
  iintro ⟨HO, #Hf, #Hlev, HcB, HcR, HatB, ⟨HatS0, HatS⟩, ⟨HatRc, HatR⟩, ⟨-, HtB⟩, ⟨-, HtS⟩, ⟨-, HtR⟩, Hrest, ⟨%f0, Hs0⟩, Hs1, ⟨%f2, Hs2⟩, Hw, Hx, Hlab, Hout⟩ Hk
  ihave Hrows := (rows_give c f2) $$ Hs2
  icases Hrows with ⟨Hrow, Hrows⟩
  unfold O₀
  iapply (run_signals v K c _ (sendDebt c (others c)) W (others c) (fun p hp => (others_mem c p).mp hp)) $$ [HO HtB Hrows]
  · isplitr; · iexact Hf
    isplitl [HO]; · iexact HO
    iapply (each_sep (fun p => dutyTok ER (barCell p) 0 c) (fun p => iprop(∃ f, rowPts (F := F) c p f)) (others c))
    isplitl [HtB] <;> iassumption
  iintro HO
  ihave Hst := (starts_all c f0 w) $$ [Hs0 Hw Hrest]
  · isplitl [Hs0]; · iexact Hs0
    isplitl [Hw] <;> iassumption
  iapply (run_starts c w _ pieces) $$ Hst
  iintro Hfl
  iapply (wp_load 𝒱₀ (c : Thread nD τ) none Set.univ (m := xM) (Finset.subset_univ _)) $$ Hx; iintro Hx
  rw [read_x]
  iapply (wp_load 𝒱₀ (c : Thread nD τ) none Set.univ (m := labM) (Finset.subset_univ _)) $$ Hlab; iintro Hlab
  rw [read_lab]
  ihave Hfl' := (Entails.of_eq ((pieces_each (underway c w)).symm.trans (nested_each (underway c w)))) $$ Hfl
  icases Hfl' with ⟨Hfl0, Hfl⟩
  iapply (run_chunk c w (sendDebt c (others c)) (sendDebt_high c _) 0 _ W) $$ [HO Hfl0]
  · isplitr; · iexact Hlev
    isplitl [HO] <;> iassumption
  iintro ⟨⟨%W', HO⟩, Har0⟩
  iapply (run_chunks c (k0_pay2 x) (k0_pay3 lab) w (sendDebt c (others c)) (sendDebt_high c _) (exchange c) [1, 2, 3, 4, 5, 6, 7] _ W') $$ [HO Hfl]
  · isplitr; · iexact Hlev
    isplitl [HO] <;> iassumption
  iintro ⟨⟨%W'', HO⟩, Har⟩
  iapply (run_exchange v K c _ hv W'') $$ [HO HcB HatB HtS HtR HcR HatR HatS HatRc HatS0 Hrow Hs1 Hout]
  · isplitl [HO]; · iexact HO
    unfold exchangePre
    isplitr; · iexact Hf
    isplitr; · iexact Hlev
    isplitl [HcB]; · iexact HcB
    isplitl [HatB]; · iexact HatB
    isplitl [HtS]; · iexact HtS
    isplitl [HtR]; · iexact HtR
    isplitl [HcR HatR]
    · iapply (each_sep (fun s => cred (tallyAt (recvCell c s) () N)) (fun s => atPos ER (recvCell c s) 0 ∅ 0) (others c))
      isplitl [HcR] <;> iassumption
    isplitl [HatS]; · iexact HatS
    isplitl [HatRc]; · iexact HatRc
    isplitl [HatS0]; · iexact HatS0
    isplitl [Hrow]; · iexact Hrow
    isplitl [Hs1]; · iexact Hs1
    iexact Hout
  iintro ⟨Hc, HzB⟩
  ihave Hall := (arrived_all c w) $$ [Har0 Har]
  · isplitl [Har0] <;> iassumption
  icases Hall with ⟨Hs0, Hw, Hrest⟩
  iapply Hk
  unfold progPost
  isplitl [Hc]; · iexact Hc
  isplitl [HzB]; · iexact HzB
  isplitl [Hs0]; · iexists _; iexact Hs0
  isplitl [Hw]; · iexact Hw
  isplitl [Hrest]; · iexact Hrest
  isplitl [Hx]; · iexact Hx
  iexact Hlab

end Cert.Run

end
-- ==== Proof.Obligation.lean ====
/-
The kernel's contents from a memory, what a device starts and ends with, and the body's obligation to the pipeline.
-/
module

public import proofs.«01_k».proof.Proof.Body
public import proofs.«01_k».proof.Proof.Gen.KernelIdeal.Points

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- The `x` and the labels the pipeline stages, and the device's columns of `W`. -/
def xstg (c : Dev nD) : S512x1024.Idx → Elt F .f32 := (win0_0.blk (0 : Fin 1)).view.read (Elt F) (m ((c : Thread nD τ).loc main_arg0))
def labstg (c : Dev nD) : S1x512.Idx → Elt F .i32 := (win0_1.blk (0 : Fin 1)).view.read (Elt F) (m ((c : Thread nD τ).loc main_arg2))
def wArr (c : Dev nD) : S1024x8192.Idx → Elt F .f32 := m ((c : Thread nD τ).loc main_arg1)

/-- Every device's own pair, and the result. -/
def ownV (c : Dev nD) : S1x2x512.Idx → Elt F .f32 := ownPair c (k0_pay2 (xstg m c)) (k0_pay3 (labstg m c)) (wArr m c)
def outAt (c : Dev nD) : S1x512.Idx → Elt F .f32 := final c (gatheredPairs (ownV m)) (ownV m c)

/-! ## What a device starts and ends with -/

def mine (c : Dev nD) : sProp 𝕄 :=
  iprop(atPos ER (barCell c) 0 ∅ 0 ∗ (bigSep Finset.univ fun d => atPos ER (sendCell c d) 0 ∅ 0) ∗ (bigSep Finset.univ fun s => atPos ER (recvCell c s) 0 ∅ 0)
    ∗ (bigSep Finset.univ fun s => dutyTok ER (barCell s) 0 c) ∗ (bigSep Finset.univ fun d => dutyTok ER (sendCell c d) 0 c)
    ∗ (bigSep Finset.univ fun s => dutyTok ER (recvCell s c) 0 c)
    ∗ bigSep Finset.univ fun p => restPts (F := F) c p)
def G' (c : Dev nD) : sProp 𝕄 := iprop((∃ K, facts (ownV m) K) ∗ mine (F := F) c)
def wPts (c : Dev nD) : sProp 𝕄 := ((c : Thread nD τ).loc main_arg1) ↦{fullShare} wArr m c
def credits (c : Dev nD) : sProp 𝕄 :=
  iprop(cred (tallyAt (barCell c) () 7) ∗ bigSep (Finset.univ.erase c) fun s => cred (tallyAt (recvCell c s) () N))
def start (c : Dev nD) : sProp 𝕄 := iprop(G' m c ∗ credits (F := F) c ∗ levAts L lv ∗ wPts m c)
/-- The scratch buffers at any contents. -/
def scratches (c : Dev nD) : sProp 𝕄 :=
  iprop((∃ f, ((c : Thread nD τ).loc cc0_scratch0) ↦{fullShare} f) ∗ (∃ f, ((c : Thread nD τ).loc cc0_scratch1) ↦{fullShare} f)
    ∗ ∃ f, ((c : Thread nD τ).loc cc0_scratch2) ↦{fullShare} f)
def Φ₀ (c : Dev nD) : sProp 𝕄 := iprop(start m c ∗ scratches (F := F) c)
def Φ₁ (c : Dev nD) : sProp 𝕄 :=
  iprop(scratches (F := F) c ∗ semVal (barCell c) 0 ∗ wPts m c ∗ (bigSep Finset.univ fun p => restPts (F := F) c p) ∗ cellsRest (F := F) c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => labstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, held c cc0_stg0_0 ((dats m 0 c).before (0 : Fin 3) t0_0 d))
    ∗ (∃ d, held c cc0_stg1_0 ((dats m 0 c).before (1 : Fin 3) t0_0 d))
    ∗ (∃ d, held c cc0_stg2_0 ((dats m 0 c).before (2 : Fin 3) t0_0 d)))
def bodyPost (c : Dev nD) : sProp 𝕄 :=
  iprop(Φ₁ m c ∗ (dats m 0 c).owesAt () t0_0.succ
    ∗ held c cc0_stg0_0 (xstg m c) ∗ held c cc0_stg1_0 (labstg m c) ∗ held c cc0_stg2_0 (outAt m c))

theorem sound_body (c : Dev nD) :
    bodyPre m c ⊢ wp frame (wpE (defs₀ (F := F)) 𝒱₀ (c : Thread nD τ) none) Set.univ
      (.op .deviceId prog) (fun _ => bodyPost m c) := by
  rw [wp_deviceId]
  unfold bodyPre Φ₀ start G' mine credits scratches
  iintro ⟨⟨⟨⟨⟨%K, #Hf⟩, Ha, Hb, Hc, Hd, He, Hg, Hr⟩, ⟨HcB, HcR⟩, #Hlev, Hw⟩, Hs0, Hs1, Hs2⟩, Ho, ⟨%d0, %g0, %hg0, Hx⟩, ⟨%d1, %g1, %hg1, Hlab⟩, ⟨%d2, %g2, %hg2, Hout⟩⟩
  have hx : g0 = xstg m c := by rw [hg0]; unfold Dat.before; rw [if_pos (fetch0_0 t0_0)]; rfl
  have hlab : g1 = labstg m c := by rw [hg1]; unfold Dat.before; rw [if_pos (fetch0_1 t0_0)]; rfl
  subst hx
  subst hlab
  unfold Dat.owesAt Pipeline.owesWithin
  icases Ho with ⟨%W, %hW, HO⟩
  rw [show (dats m 0 c).owed t0_0.castSucc = O₀ c from rfl]
  iapply (run_prog (ownV m) K c (xstg m c) (labstg m c) (wArr m c) rfl W) $$ [HO Ha Hb Hc Hd He Hg Hr HcB HcR Hw Hs0 Hs1 Hs2 Hx Hlab Hout]
  · isplitl [HO]; · iexact HO
    unfold progPre
    isplitr; · iexact Hf
    isplitr; · iexact Hlev
    isplitl [HcB]; · iexact HcB
    isplitl [HcR]; · iexact HcR
    isplitl [Ha]; · iexact Ha
    isplitl [Hb]; · iexact Hb
    isplitl [Hc]; · iexact Hc
    isplitl [Hd]; · iexact Hd
    isplitl [He]; · iexact He
    isplitl [Hg]; · iexact Hg
    isplitl [Hr]; · iexact Hr
    isplitl [Hs0]; · iexact Hs0
    isplitl [Hs1]; · iexact Hs1
    isplitl [Hs2]; · iexact Hs2
    isplitl [Hw]; · unfold wPts; iexact Hw
    isplitl [Hx]; · iexact Hx
    isplitl [Hlab]; · iexact Hlab
    iexists g2; iexact Hout
  unfold progPost collectPost
  iintro ⟨⟨⟨%W', HO⟩, Hout, Hs1, Hs2, Hcells⟩, HzB, Hs0, Hw, Hr, Hx, Hlab⟩
  unfold bodyPost Φ₁ scratches Dat.owesAt Pipeline.owesWithin
  rw [show (dats m 0 c).owed t0_0.succ = 0 from rfl]
  isplitl [Hs0 Hs1 Hs2 HzB Hw Hr Hcells]
  · isplitl [Hs0 Hs1 Hs2]
    · isplitl [Hs0]; · iexact Hs0
      isplitl [Hs1] <;> iassumption
    isplitl [HzB]; · iexact HzB
    isplitl [Hw]; · unfold wPts; iexact Hw
    isplitl [Hr] <;> iassumption
  isplitl [HO]
  · iexists W'
    isplitr; · ipureintro; exact fun _ _ => Or.inl trivial
    iexact HO
  isplitl [Hx]
  · iexists _; isplitr; · (ipureintro; rfl)
    iexact Hx
  isplitl [Hlab]
  · iexists _; isplitr; · (ipureintro; rfl)
    iexact Hlab
  iexists _; isplitr; · (ipureintro; rfl)
  iexact Hout

set_option maxRecDepth 65536 in
theorem body_obligation (c : Dev nD) : BodyObligation (dats (F := F) m 0 c) (defs₀ (F := F)) 𝒱₀ () Set.univ := fun t => by
  rw [fin_N0 t]
  rw [bigSep_W0, bigSep_W0]
  simp only [owns_buffer]
  show bodyPre m c ⊢ wp frame (wpE (defs₀ (F := F)) 𝒱₀ (c : Thread nD τ) none) Set.univ
    (cc0_body (F := F) xM (Memref.isWhole_whole _) wM (Memref.isWhole_whole _) labM (Memref.isWhole_whole _) outM (Memref.isWhole_whole _)
      wbM (Memref.isWhole_whole _) ownM (Memref.isWhole_whole _) allM (Memref.isWhole_whole _) cc0_scratch3 cc0_scratch4 cc0_scratch5) (fun _ => bodyPost m c)
  rw [body_eq]
  exact sound_body m c

end Cert.Run

end
-- ==== Proof.Launch.lean ====
/-
The launch: the exchange's cells and tokens handed to the devices, the credit each device starts with, and the run of
the whole mesh.
-/
module

public import proofs.«01_k».proof.Proof.Obligation
public import Idealize.ShloMosaic.Lib.Pipeline.CollectiveSegs
public import Idealize.ShloMosaic.Lib.Quiescent

@[expose] public section

noncomputable section

namespace Cert.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

abbrev OwnSlot : Type := (Fin 8 × Fin 4) ⊕ Fin 8 ⊕ Fin 8
abbrev osem : OwnSlot → SemLoc sig
  | .inl p => .dma (localS p.1 p.2)
  | .inr (.inl d) => .dma (sendSm d)
  | .inr (.inr s) => .dma (landSm s)

set_option maxRecDepth 65536 in
theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop((bigSep Finset.univ fun p => restPts (F := F) c p) ∗ cellsRest (F := F) c) := by
  unfold Pipeline.ownSems0 cellsRest
  rw [bigSep_univ_sum, bigSep_univ_sum]
  rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-! ## The cells and the tokens as they are minted: for every cell one token per device -/

def exCells : Finset (GSem nD τ sig) := Finset.univ.map ⟨kcell, kcell_inj⟩
abbrev tokOf (p : (Dev nD × Slot) × Fin 8) : GSem nD τ sig × ℕ × Fin 8 := (kcell p.1, 0, p.2)
theorem tokOf_inj : Function.Injective tokOf := fun p q h =>
  Prod.ext (kcell_inj (congrArg Prod.fst h)) (congrArg (fun x : GSem nD τ sig × ℕ × Fin 8 => x.2.2) h)
def exToks : Finset (GSem nD τ sig × ℕ × Fin 8) := Finset.univ.map ⟨tokOf, tokOf_inj⟩

def u₀ : UU := (initOf (Pipeline.cells cfgs cellOf_inj) (Pipeline.launchToks cfgs cellOf_inj), (initOf exCells exToks, 1))

/-- The tokens of a device's cells that are used: every device's at its barrier, its own at a send cell, `s`'s at receive cell `s`. -/
def toks (c : Dev nD) : sProp 𝕄 :=
  iprop((bigSep Finset.univ fun e : Fin 8 => dutyTok ER (barCell c) 0 e) ∗ (bigSep Finset.univ fun d : Fin 8 => dutyTok ER (sendCell c d) 0 c)
    ∗ bigSep Finset.univ fun s : Fin 8 => dutyTok ER (recvCell c s) 0 s)

theorem toks_pick (c : Dev nD) :
    (bigSep Finset.univ fun k : Slot => bigSep Finset.univ fun e : Fin 8 => (dutyTok ER (kcell (c, k)) 0 e : sProp 𝕄)) ⊢ toks c := by
  unfold toks
  rw [bigSep_univ_sum, bigSep_univ_sum, show (Finset.univ : Finset Unit) = {()} from rfl, bigSep_singleton]
  exact BI.sep_mono (BI.Entails.refl _) (BI.sep_mono (bigSep_mono fun d _ => bigSep_elim (Finset.mem_univ c)) (bigSep_mono fun s _ => bigSep_elim (Finset.mem_univ s)))

/-- What the launch deals device `c`. -/
def G (c : Dev nD) : sProp 𝕄 :=
  iprop((bigSep Finset.univ fun k : Slot => roundState ER (sched (ownV m)) (kcell (c, k)) 0)
    ∗ (bigSep Finset.univ fun k : Slot => atPos ER (kcell (c, k)) 0 ∅ 0) ∗ (bigSep Finset.univ fun k : Slot => reached ER (kcell (c, k)) 0) ∗ toks (F := F) c)

theorem fund_exchange : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Slot => Φ (kcell (c, k)) := by
    unfold exCells; rw [bigSep_map, bigSep_univ_prod]; rfl
  have hT : bigSep exToks (fun x => (dutyTok ER x.1 x.2.1 x.2.2 : sProp 𝕄)) ⊢ bigSep Finset.univ fun c : Dev nD => toks c := by
    unfold exToks; rw [bigSep_map, bigSep_univ_prod, bigSep_univ_prod]
    exact bigSep_mono fun c _ => toks_pick c
  iintro HX
  imod (Rounds.fund ER (sched (ownV m)) exCells exToks) $$ HX with ⟨Hst, Hr, Hat, Htok⟩
  imodintro
  ihave Hst' := (Entails.of_eq (hX fun g => roundState ER (sched (ownV m)) g 0)) $$ Hst
  ihave Hat' := (Entails.of_eq (hX fun g => atPos ER g 0 ∅ 0)) $$ Hat
  ihave Hr' := (Entails.of_eq (hX fun g => reached ER g 0)) $$ Hr
  ihave Htok' := (hT) $$ Htok
  unfold G; simp only [bigSep_sep']
  isplitl [Hst']; · iexact Hst'
  isplitl [Hat']; · iexact Hat'
  isplitl [Hr'] <;> iassumption

/-! ## The global step: every cell's invariant allocated, the tokens dealt to the devices that pay with them -/

/-- What a device has after the allocation of its own cells. -/
def dealt (c : Dev nD) : sProp 𝕄 :=
  iprop((bigSep Finset.univ fun k : Slot => iprop(∃ κ : ℕ, cellInv ER (sched (ownV m)) κ (kcell (c, k))))
    ∗ (bigSep Finset.univ fun k : Slot => reached ER (kcell (c, k)) 0)
    ∗ (bigSep Finset.univ fun k : Slot => atPos ER (kcell (c, k)) 0 ∅ 0) ∗ toks (F := F) c ∗ bigSep Finset.univ fun p => restPts (F := F) c p)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> dealt m c := by
  have hsum : iprop(semVal (barCell c) 0 ∗ cellsRest (F := F) c) ⊢ (bigSep Finset.univ fun k : Slot => (semVal (kcell (c, k)) 0 : sProp 𝕄)) := by
    unfold cellsRest
    rw [bigSep_univ_sum (fun k : Slot => (semVal (kcell (c, k)) 0 : sProp 𝕄)), bigSep_univ_sum, show (Finset.univ : Finset Unit) = {()} from rfl, bigSep_singleton]
    exact BI.Entails.refl _
  have halloc : iprop((bigSep Finset.univ fun k : Slot => semVal (kcell (c, k)) 0) ∗ bigSep Finset.univ fun k : Slot => roundState ER (sched (ownV m)) (kcell (c, k)) 0)
      ⊢ (|={Set.univ}=> bigSep Finset.univ fun k : Slot => iprop(∃ κ : ℕ, cellInv ER (sched (ownV m)) κ (kcell (c, k))) : sProp 𝕄) := by
    rw [← bigSep_sep']
    exact (bigSep_mono fun k _ => (Rounds.body_intro ER (sched (ownV m)) (kcell (c, k))).trans inv_alloc).trans (bigSep_fupd _ _)
  rw [ownSems0_eq, unscopedSems0_eq]
  unfold G dealt
  iintro ⟨⟨Hrest, Hcells⟩, Hbar, Hst, Hat, Hr, Htok⟩
  ihave Hv := (hsum) $$ [Hbar Hcells]
  · isplitl [Hbar] <;> iassumption
  imod (halloc) $$ [Hv Hst] with Hinv
  · isplitl [Hv] <;> iassumption
  imodintro
  isplitl [Hinv]; · iexact Hinv
  isplitl [Hr]; · iexact Hr
  isplitl [Hat]; · iexact Hat
  isplitl [Htok] <;> iassumption

/-- The tokens a device pays with. -/
def pays (c : Dev nD) : sProp 𝕄 :=
  iprop((bigSep Finset.univ fun s : Fin 8 => dutyTok ER (barCell s) 0 c) ∗ (bigSep Finset.univ fun d : Fin 8 => dutyTok ER (sendCell c d) 0 c)
    ∗ bigSep Finset.univ fun s : Fin 8 => dutyTok ER (recvCell s c) 0 c)

theorem toks_around : (bigSep Finset.univ fun c : Dev nD => (toks c : sProp 𝕄)) = bigSep Finset.univ fun c : Dev nD => pays c := by
  unfold toks pays
  rw [bigSep_sep', bigSep_sep', bigSep_sep', bigSep_sep',
    bigSep_univ_comm (fun (c : Dev nD) (e : Fin 8) => (dutyTok ER (barCell c) 0 e : sProp 𝕄)),
    bigSep_univ_comm (fun (c : Dev nD) (s : Fin 8) => (dutyTok ER (recvCell c s) 0 s : sProp 𝕄))]

theorem positions (c : Dev nD) : (bigSep Finset.univ fun k : Slot => (atPos ER (kcell (c, k)) 0 ∅ 0 : sProp 𝕄))
    ⊢ iprop(atPos ER (barCell c) 0 ∅ 0 ∗ (bigSep Finset.univ fun d : Fin 8 => atPos ER (sendCell c d) 0 ∅ 0) ∗ bigSep Finset.univ fun s : Fin 8 => atPos ER (recvCell c s) 0 ∅ 0) := by
  rw [bigSep_univ_sum, bigSep_univ_sum, show (Finset.univ : Finset Unit) = {()} from rfl, bigSep_singleton]
  exact BI.Entails.refl _

theorem hand_out (K : Dev nD × Slot → ℕ) (c : Dev nD) :
    iprop(facts (ownV m) K ∗ (bigSep Finset.univ fun k : Slot => atPos ER (kcell (c, k)) 0 ∅ 0) ∗ pays (F := F) c ∗ bigSep Finset.univ fun p => restPts (F := F) c p)
      ⊢ G' m c := by
  unfold pays G' mine
  iintro ⟨#Hf, Hat, ⟨Hb, Hs, Hr⟩, Hrest⟩
  ihave Hat' := (positions (F := F) c) $$ Hat
  icases Hat' with ⟨Ha, Hc, Hd⟩
  isplitr; · iexists K; iexact Hf
  isplitl [Ha]; · iexact Ha
  isplitl [Hc]; · iexact Hc
  isplitl [Hd]; · iexact Hd
  isplitl [Hb]; · iexact Hb
  isplitl [Hs]; · iexact Hs
  isplitl [Hr] <;> iassumption

theorem regroup : (bigSep Finset.univ fun c : Dev nD => dealt m c) ⊢ bigSep Finset.univ (G' m) := by
  unfold dealt
  rw [bigSep_sep', bigSep_sep', bigSep_sep', bigSep_sep', toks_around,
    ← bigSep_univ_prod (fun p : Dev nD × Slot => iprop(∃ κ : ℕ, cellInv ER (sched (ownV m)) κ (kcell p))),
    ← bigSep_univ_prod (fun p : Dev nD × Slot => (reached ER (kcell p) 0 : sProp 𝕄)), ← bigSep_sep', ← bigSep_sep']
  iintro ⟨HI, #HR, Hrest⟩
  ihave HK := (BI.bigSep_exists_pi Finset.univ (fun (p : Dev nD × Slot) (κ : ℕ) => (cellInv ER (sched (ownV m)) κ (kcell p) : sProp 𝕄))) $$ HI
  icases HK with ⟨%K, #HI⟩
  iapply (bigSep_with_persistent (R := facts (ownV m) K) fun c _ => hand_out m K c)
  isplitr
  · unfold facts; isplitl; · iexact HI
    iexact HR
  iexact Hrest

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch: what all devices together owe a cell -/

theorem sendDebt_recv (d c : Dev nD) (s : Fin 8) : ∀ l : List (Dev nD), sendDebt d l (recvCell c s) () = if d = s then l.count c * N else 0
  | [] => by simp [sendDebt]
  | p :: l => by
    unfold sendDebt
    rw [Pi.add_apply, Finsupp.add_apply, tallyAt_apply, sendDebt_recv d c s l, List.count_cons]
    by_cases h : d = s
    · subst h
      by_cases hp : p = c
      · subst hp; simp [Nat.add_mul]
      · rw [if_neg (fun h : recvCell c d = recvCell p d ∧ () = () => hp (recvCell_eq_iff.mp h.1).1.symm)]; simp [hp]
    · rw [if_neg h, if_neg h, if_neg (fun e : recvCell c s = recvCell p d ∧ () = () => h (recvCell_eq_iff.mp e.1).2.symm)]
theorem sendDebt_bar (d c : Dev nD) : ∀ l : List (Dev nD), sendDebt d l (barCell c) () = 0
  | [] => rfl
  | p :: l => by
    unfold sendDebt
    rw [Pi.add_apply, Finsupp.add_apply, tallyAt_apply, sendDebt_bar d c l, if_neg fun h => recvCell_ne_barCell h.1.symm]
theorem signalDebt_recv (O : CellTallies nD τ sig Unit) (c : Dev nD) (s : Fin 8) : ∀ l : List (Dev nD), signalDebt O l (recvCell c s) () = O (recvCell c s) ()
  | [] => rfl
  | p :: l => by
    unfold signalDebt
    rw [Pi.add_apply, Finsupp.add_apply, tallyAt_apply, signalDebt_recv O c s l, if_neg fun h => recvCell_ne_barCell h.1, Nat.add_zero]
theorem signalDebt_bar (O : CellTallies nD τ sig Unit) (c : Dev nD) : ∀ l : List (Dev nD), signalDebt O l (barCell c) () = O (barCell c) () + l.count c
  | [] => rfl
  | p :: l => by
    unfold signalDebt
    rw [Pi.add_apply, Finsupp.add_apply, tallyAt_apply, signalDebt_bar O c l, List.count_cons]
    by_cases hp : p = c
    · subst hp; simp [Nat.add_assoc]
    · rw [if_neg (fun h => hp (barCell_eq_iff.mp h.1).symm)]; simp [hp]

theorem count_all : ∀ c : Dev nD, (∑ d : Dev nD, (others d).count c) = 7 := by decide +kernel
theorem count_other : ∀ c s : Dev nD, s ≠ c → (others s).count c = 1 := by decide +kernel

theorem launch_bar (c : Dev nD) : tallyOn (barCell c) (launchCredit (Pipeline.owing O₀) 0 (barCell c)) = (tallyAt (barCell c) () 7 : CellTallies nD τ sig Unit) := by
  unfold tallyAt; refine congrArg _ (Finsupp.ext fun u => ?_); cases u
  have h (d : Dev nD) : O₀ d (barCell c) () = (others d).count c := by unfold O₀; rw [signalDebt_bar, sendDebt_bar, Nat.zero_add]
  rw [Pipeline.launchCredit_owing, Finsupp.single_eq_same, Finset.sum_congr rfl fun d _ => h d, count_all]
theorem launch_recv (c s : Dev nD) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  have h (d : Dev nD) : O₀ d (recvCell c s) () = if d = s then N else 0 := by
    unfold O₀; rw [signalDebt_recv, sendDebt_recv]
    by_cases e : d = s
    · subst e; rw [if_pos rfl, if_pos rfl, count_other c d hs, Nat.one_mul]
    · rw [if_neg e, if_neg e]
  rw [Pipeline.launchCredit_owing, Finsupp.single_eq_same, Finset.sum_congr rfl fun d _ => h d, Finset.sum_ite_eq' Finset.univ s fun _ => N, if_pos (Finset.mem_univ _)]

theorem landLoc_inj : Function.Injective fun s : Fin 8 => (SemLoc.dma (landSm s) : SemLoc sig) := fun s t h => landSm_inj (SemLoc.dma.inj h)

theorem creds (c : Dev nD) : (Pipeline.launchCred O₀ c : sProp 𝕄) ⊢ credits (F := F) c := by
  unfold Pipeline.launchCred credits
  rw [bigSep_univ_at _ (SemLoc.reg barS), launch_bar]
  refine sep_mono_right ?_
  have hsub : (Finset.univ.erase c).map ⟨_, landLoc_inj⟩ ⊆ (Finset.univ.erase (SemLoc.reg barS) : Finset (SemLoc sig)) := fun x hx => by
    obtain ⟨s, _, rfl⟩ := Finset.mem_map.mp hx
    exact Finset.mem_erase.mpr ⟨fun h => (by cases h), Finset.mem_univ _⟩
  refine (bigSep_subset hsub).trans ?_
  rw [bigSep_map]
  exact bigSep_mono fun s hs => Entails.of_eq (congrArg cred (launch_recv c s (Finset.mem_erase.mp hs).1))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : sProp 𝕄) = wPts m c from unscopedRest0_eq c _]
  iintro ⟨Hw, Hlev, Hcr, -, HG⟩
  ihave Hc := (creds (F := F) c) $$ Hcr
  imodintro
  unfold start
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs] <;> iassumption

theorem phi1_exit (c : Dev nD) :
    (dats m 0 c).Φ (Fin.last cfg0.N)
      ⊢ iprop(iprop(unscopedSems0 c ∗ wPts m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scratches
  iintro ⟨Hs, HzB, Hw, Hr, Hc⟩
  isplitl [HzB Hw]
  · isplitl [HzB] <;> iassumption
  isplitl [Hr Hc]
  · isplitl [Hr] <;> iassumption
  iexact Hs

theorem stage_not_land : ∀ (w : Fin cfg0.W) (s : Fin (cfg0.spec w).nbuf) (r : Fin 8), (cfg0.spec w).sem s ≠ landSm r := by decide +kernel

theorem waits (c : Dev nD) : (levAts L lv : sProp 𝕄) ⊢ Pipeline.cellsWaits cfgs (dats m) () 0 c :=
  Pipeline.cellsWaits_intro cfgs (dats m) () 0 c fun w s t =>
    mayWait_low c _ (stage_not_land w s) _ (by
      rcases t with ⟨_ | _, ht⟩
      · exact O₀_high c
      · exact fun g u h => absurd h (Nat.lt_irrefl 0))

theorem share_eq (c : Dev nD) (w : Fin cfg0.W) : (dats m 0 c).share w = fullShare := by unfold Dat.share; split <;> rfl

/-! ## The run -/

def finalA (c : Dev nD) (w : Fin cfg0.W) : Buf (Elt F) ((cfg0.win w).arr.view.loc (c : Thread nD τ)) := (dats m 0 c).arrAt w cfg0.N

/-- What a device's memory and counters hold at the end, besides the windows' arrays. -/
def EndsWell (c : Dev nD) (s : MemSt nD τ sig (Elt F)) : Prop :=
  (∀ sm : SemLoc sig, sm.isScoped .tc = false → s.sem ((c.tc : Thread nD τ), sm) = 0) ∧ s.mem ((c : Thread nD τ).loc main_arg1) = wArr m c

theorem end_read (c : Dev nD) (s' : Phys nD τ sig (Elt F)) :
    iprop(iprop(unscopedSems0 c ∗ wPts m c) ∗ emp ∗ SI s') ⊢ (|={Set.univ}=> iprop(⌜EndsWell m c s'.mem⌝ ∗ SI s') : sProp 𝕄) := by
  have hread : iprop(SI s' ∗ wPts m c) ⊢ (⌜∀ i ∈ Finset.univ, s'.mem.mem ((c : Thread nD τ).loc main_arg1) i = wArr m c i⌝ : sProp 𝕄) := SI_pointsTo_agree
  iintro ⟨⟨Hu, Hw⟩, -, HSI⟩
  ihave %hw := (hread) $$ [HSI Hw]
  · isplitl [HSI] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨hs, funext fun i => hw i (Finset.mem_univ i)⟩
  iexact HSI

set_option maxRecDepth 65536 in
/-- On the mesh of eight devices, for any float values, from any memory with all counters at zero: every weakly fair execution
    of the kernel ends, with every device's windows' arrays at their computed contents, `W` as it was and every counter at zero. -/
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w)
      ∧ r.2.mem ((c : Thread nD τ).loc main_arg1) = wArr m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H' := (own_pair_emb embR _ _) $$ HX
      icases H' with ⟨HX, -⟩
      imod (fund_exchange m) $$ HX with HG
      imodintro
      isplitl [HP] <;> iassumption)
    (hglob := glob m)
    (hA := fun _ _ => rfl) (hpf := fun _ k => k.elim0)
    (X := start m) (Y := fun c => iprop(unscopedSems0 c ∗ wPts m c)) (Z := fun _ => iprop(emp))
    (hX := start_intro m ρ) (hin := phi0_intro m) (hout := phi1_exit m)
    (QY := EndsWell m) (hY := end_read m)
    (hQ := fun _ h hs => ⟨fun c => ⟨(h c).1, (h c).2.2.2⟩, sem_eq_zero hs fun c => (h c).2.2.1⟩)

theorem finalA_x (c : Dev nD) : finalA m c (0 : Fin 3) = m ((c : Thread nD τ).loc main_arg0) := (dats (F := F) m 0 c).arrAt_in (0 : Fin 3) rfl _
theorem finalA_lab (c : Dev nD) : finalA m c (1 : Fin 3) = m ((c : Thread nD τ).loc main_arg2) := (dats (F := F) m 0 c).arrAt_in (1 : Fin 3) rfl _

/-- The same run, read at the arguments: each ends as it began, and every counter at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).1 (0 : Fin 3)).trans (finalA_x m c), (h.1 c).2,
    ((h.1 c).1 (1 : Fin 3)).trans (finalA_lab m c)⟩, h.2⟩) (run_main m ρ)

end Cert.Run

end
-- ==== Proof.Same.lean ====
/-
The kernel as printed and its ideal program have one text: their tables of bodies are the same functions.
-/
module

public import proofs.«01_k».proof.Defs
public import proofs.«01_k».proof.Proof.Gen.Kernel
public import proofs.«01_k».proof.Proof.Launch

@[expose] public section

noncomputable section

namespace Cert.Run

open Idealize.ShloMosaic Idealize.SL.Sem

set_option maxRecDepth 65536 in
/-- The two programs' kernel bodies are one function. -/
theorem same_body : Cert.Kernel.cc0_body (F := Bits) = Cert.KernelIdeal.cc0_body (F := Bits) := rfl

/-- Their tables of kernel bodies have one entry each, which is that function. -/
theorem same_kernels : Cert.Kernel.defs₀ (F := Bits) = Cert.KernelIdeal.defs₀ (F := Bits) := by
  unfold Cert.Kernel.defs₀ Cert.KernelIdeal.defs₀
  refine congrArg _ (funext fun l => ?_)
  match l with
  | ⟨0, _⟩ => exact funext fun p => congrFun (congrFun (congrFun (congrFun (congrFun (congrFun (congrFun (congrFun (congrFun (congrFun (congrFun (congrFun (congrFun (congrFun (congrFun (congrFun (congrFun same_body _) _) _) _) _) _) _) _) _) _) _) _) _) _) _) _) _
  | ⟨n + 1, h⟩ => exact absurd h (Nat.not_lt.2 (Nat.le_add_left _ _))

/-- The tables with the pipelines' own entries. -/
theorem same_defs : Cert.Kernel.defs (F := Bits) = Cert.KernelIdeal.defs (F := Bits) := by
  unfold Cert.Kernel.defs Cert.KernelIdeal.defs
  exact congrArg (Pipeline.defs _) same_kernels

/-- The kernel as printed, over its own float words, leaves its arguments as they were and every counter at zero. -/
theorem frame_kernel : Cert.quiescent_Kernel := fun m ρ _ => by
  have h := frame (F := Bits) m ρ
  rw [← same_defs] at h
  exact h

end Cert.Run

end
-- ==== Proof.Equation.lean ====
/-
The equation between the two sides, over plain numbers: the logarithm of a sum of exponentials does not change when
every exponent is lowered by a real number and that number is added back; a sum over all columns is the sum over the
devices, the chunks of a device and the columns of a chunk; and the words the kernel compares say which column is the
label.
-/
module

public import Idealize.ShloMosaic.PureOps.Ideal.Laws
public import Mathlib.Logic.Equiv.Fin.Basic
public import Mathlib.Data.Fintype.BigOperators

@[expose] public section

noncomputable section

namespace Cert.Run

open Idealize.ShloMosaic

/-! ## Real numbers among the extended reals -/

/-- A value is a real number. -/
def IsReal (a : EReal) : Prop := ∃ r : ℝ, a = r

theorem IsReal.mul {a b : EReal} : IsReal a → IsReal b → IsReal (a * b) := by
  rintro ⟨r, rfl⟩ ⟨s, rfl⟩; exact ⟨r * s, (EReal.coe_mul r s).symm⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The larger of two real numbers, and of finitely many of which there is one, is a real number. -/
theorem IsReal.max {a b : EReal} : IsReal a → IsReal b → IsReal (max a b) := fun ha hb => by
  rcases max_choice a b with h | h <;> rw [h] <;> assumption
theorem fold_max_real {ι : Type} (s : Finset ι) (f : ι → EReal) (h : ∀ i, IsReal (f i)) :
    s.fold Max.max ⊥ f = ⊥ ∨ IsReal (s.fold Max.max ⊥ f) := by
  classical
  induction s using Finset.induction_on with
  | empty => exact .inl rfl
  | insert a s ha ih =>
    right; rw [Finset.fold_insert ha]
    rcases ih with e | e
    · rw [e, max_eq_left bot_le]; exact h a
    · exact (h a).max e
theorem fold_max_real' {ι : Type} [Fintype ι] (i₀ : ι) (f : ι → EReal) (h : ∀ i, IsReal (f i)) :
    IsReal (Finset.univ.fold Max.max ⊥ f) := by
  rcases fold_max_real Finset.univ f h with e | e
  · have hle : f i₀ ≤ Finset.univ.fold Max.max ⊥ f := (Finset.le_fold_max _).mpr (.inr ⟨i₀, Finset.mem_univ _, le_rfl⟩)
    obtain ⟨r, hr⟩ := h i₀
    rw [e, hr] at hle
    exact absurd (le_bot_iff.mp hle) (EReal.coe_ne_bot r)
  · exact e

/-! ## The logarithm of a sum of exponentials -/

/-- Lowering every exponent by a real number and adding it back leaves the logarithm of the sum as it was. -/
theorem lse_shift {ι : Type} [Fintype ι] (i₀ : ι) (l : ι → EReal) (hl : ∀ i, IsReal (l i)) (μ : EReal) (hμ : IsReal μ) :
    μ + Ideal.log (∑ i, Ideal.exp (l i - μ)) = Ideal.log (∑ i, Ideal.exp (l i)) := by
  choose g hg using hl
  obtain ⟨s, rfl⟩ := hμ
  have e1 : ∑ i, Ideal.exp (l i - s) = ((∑ i, Real.exp (g i - s) : ℝ) : EReal) := by
    rw [coe_sum]
    refine Finset.sum_congr rfl fun i _ => ?_
    rw [hg i, ← EReal.coe_sub, Ideal.exp_coe]
  have e2 : ∑ i, Ideal.exp (l i) = ((∑ i, Real.exp (g i) : ℝ) : EReal) := by
    rw [coe_sum]
    refine Finset.sum_congr rfl fun i _ => ?_
    rw [hg i, Ideal.exp_coe]
  have p1 : 0 < ∑ i, Real.exp (g i - s) := Finset.sum_pos (fun i _ => Real.exp_pos _) ⟨i₀, Finset.mem_univ _⟩
  have p2 : 0 < ∑ i, Real.exp (g i) := Finset.sum_pos (fun i _ => Real.exp_pos _) ⟨i₀, Finset.mem_univ _⟩
  have e3 : ∑ i, Real.exp (g i) = Real.exp s * ∑ i, Real.exp (g i - s) := by
    rw [Finset.mul_sum]
    refine Finset.sum_congr rfl fun i _ => ?_
    rw [← Real.exp_add]; congr 1; ring
  rw [e1, e2, Ideal.log_coe, Ideal.log_coe, if_neg (not_le.mpr p1), if_neg (not_le.mpr p2), e3,
    Real.log_mul (Real.exp_pos s).ne' p1.ne', Real.log_exp, EReal.coe_add]

/-! ## The columns, by device, chunk and place -/

/-- Column `q` of chunk `j` of device `c` among all the columns. -/
def col (c j : Fin 8) (q : Fin 1024) : Fin 65536 := ⟨8192 * c.val + (1024 * j.val + q.val), by omega⟩

theorem sum_cols {M : Type} [AddCommMonoid M] (f : Fin 65536 → M) : ∑ c : Fin 8, ∑ j : Fin 8, ∑ q : Fin 1024, f (col c j q) = ∑ v, f v := by
  rw [← Equiv.sum_comp (finProdFinEquiv (m := 8) (n := 8192)) f, Fintype.sum_prod_type]
  refine Finset.sum_congr rfl fun c _ => ?_
  rw [← Equiv.sum_comp (finProdFinEquiv (m := 8) (n := 1024)) fun r : Fin 8192 => f (finProdFinEquiv (c, r)), Fintype.sum_prod_type]
  refine Finset.sum_congr rfl fun j _ => Finset.sum_congr rfl fun q _ => congrArg f (Fin.ext ?_)
  show 8192 * c.val + (1024 * j.val + q.val) = (q.val + 1024 * j.val) + 8192 * c.val
  omega

/-- A sum of one value at one column and zero at the others is that value. -/
theorem sum_cols_single (f : Fin 65536 → EReal) (v : Fin 65536) :
    (∑ c : Fin 8, ∑ j : Fin 8, ∑ q : Fin 1024, if col c j q = v then f (col c j q) else 0) = f v := by
  rw [sum_cols fun u => if u = v then f u else 0]
  simp

/-- The words the kernel compares: the column in the chunk is the label less the device's and the chunk's first column
    exactly when the column is the label. -/
theorem word_hit (lab : BitVec 32) (h : lab.toNat < 65536) (c j : Fin 8) (q : Fin 1024) :
    (BitVec.ofNat 32 q.val == lab - BitVec.ofNat 32 c.val * 8192#32 - BitVec.ofNat 32 (1024 * j.val))
      = decide (col c j q = ⟨lab.toNat, h⟩) := by
  rw [Bool.beq_eq_decide_eq]
  refine decide_eq_decide.mpr ⟨fun e => Fin.ext ?_, fun e => ?_⟩
  · have := congrArg BitVec.toNat e
    simp only [BitVec.toNat_sub, BitVec.toNat_mul, BitVec.toNat_ofNat] at this
    show 8192 * c.val + (1024 * j.val + q.val) = lab.toNat
    omega
  · have e' : 8192 * c.val + (1024 * j.val + q.val) = lab.toNat := congrArg Fin.val e
    apply BitVec.eq_of_toNat_eq
    simp only [BitVec.toNat_sub, BitVec.toNat_mul, BitVec.toNat_ofNat]
    omega

/-! ## The value -/

/-- The row's loss: the logarithm of the sum of the exponentials of its logits, less the logit at its label. -/
def loss (L : Fin 512 → Fin 65536 → EReal) (y : Fin 512 → Fin 65536) (t : Fin 512) : EReal :=
  Ideal.log (∑ v, Ideal.exp (L t v)) - L t (y t)

end Cert.Run

end
-- ==== Proof.BlockValue.lean ====
/-
What a device computes, read at an index over the ideal values: the logits of one chunk, the two sums of one chunk, the
two sums of a device.
-/
module

public import proofs.«01_k».proof.Proof.Body
public import proofs.«01_k».proof.Proof.Equation
public import Idealize.ShloMosaic.Lib.MatmulPlain
public import Idealize.ShloMosaic.Lib.ValueIdx
public import Idealize.ShloMosaic.Lib.ValueLayout
public import Idealize.ShloMosaic.Lib.ValueLayoutCasts

@[expose] public section

noncomputable section

namespace Cert.Run

open Cert.KernelIdeal Cert.KernelIdeal.Gen
open Idealize.ShloMosaic Idealize.ShloMosaic.TcCoe
open Idealize.ShloMosaic.ValueIdx

/-- The place in a device's `W` of column `q` of chunk `j`. -/
def lcol (j : Fin 8) (q : Fin 1024) : Fin 8192 := ⟨1024 * j.val + q.val, by omega⟩

/-- A logit: a row of `x` times a column of the device's `W`. -/
def dlogit (x : S512x1024.Idx → EReal) (w : S1024x8192.Idx → EReal) (t : Fin 512) (n : Fin 8192) : EReal :=
  ∑ k : Fin 1024, x (ix2 t k) * w (ix2 k n)

theorem chunkVal_at (w : S1024x8192.Idx → EReal) (j : Fin 8) (k q : Fin 1024) :
    chunkVal (F := Ideal) w j (ix3 (0 : Fin 1) k q) = w (ix2 k (lcol j q)) := by
  show gathered (F := Ideal) w ((chunkR j).emb (ix3 (0 : Fin 1) k q)) = _
  unfold gathered
  congr 1
  funext a
  match a with
  | ⟨0, _⟩ => exact Fin.ext (by show 0 + 1 * k.val = k.val; omega)
  | ⟨1, _⟩ => exact Fin.ext (by show 1024 * (j.val + 1 * 0) + (0 + 1 * q.val) = 1024 * j.val + q.val; omega)

theorem logits_at (x : S512x1024.Idx → EReal) (w : S1024x8192.Idx → EReal) (j : Fin 8) (t : Fin 512) (q : Fin 1024) :
    logits (F := Ideal) x (chunkVal (F := Ideal) w j) (ix2 t q) = dlogit x w t (lcol j q) := by
  unfold logits
  have h := Ideal.matmul_plain_apply (M := 512) (K := 1024) (N := 1024) (φ₁ := .f32) (φ₂ := .f32) none x
    (shapeCast S1024x1024 (chunkVal (F := Ideal) w j) shapeCasts_S1x1024x1024_S1024x1024) (constant S512x1024 .f32 0x00000000#32) t q
  refine (show _ = _ from h).trans ?_
  rw [constant_apply, Ideal.ofBits_zero_f32, zero_add]
  unfold dlogit
  refine Finset.sum_congr rfl fun k _ => ?_
  rw [shapeCast_1ab_ab_apply]
  exact congrArg _ (chunkVal_at w j k q)

theorem lift_row (t : Fin 512) (q : Fin 1024) : reduces_S512x1024_S512.lift (ix1 t) q = ix2 t q := by
  funext a
  match a with
  | ⟨0, _⟩ => exact Fin.ext rfl
  | ⟨1, _⟩ => exact Fin.ext rfl

theorem exp_at (x : S512x1024.Idx → EReal) (w : S1024x8192.Idx → EReal) (j : Fin 8) (t : Fin 512) (q : Fin 1024) :
    exp (logits (F := Ideal) x (chunkVal (F := Ideal) w j)) (reduces_S512x1024_S512.lift (ix1 t) q) = Ideal.exp (dlogit x w t (lcol j q)) := by
  rw [lift_row, ← logits_at]; rfl

theorem expSum_at (x : S512x1024.Idx → EReal) (w : S1024x8192.Idx → EReal) (j : Fin 8) (t : Fin 512) :
    expSum (F := Ideal) x (chunkVal (F := Ideal) w j) (ix1 t) = ∑ q : Fin 1024, Ideal.exp (dlogit x w t (lcol j q)) := by
  unfold expSum
  exact (Ideal.multiReduction_add_single _ _ _ _ _ _).trans (Finset.sum_congr rfl fun q _ => exp_at x w j t q)

theorem idw_ofNat (c : Dev nD) : idw c = BitVec.ofNat 32 c.val := by revert c; decide +kernel

theorem words_at (a b : IVec S512x1024 32) (i : S512x1024.Idx) : cmpi .eq a b i = BitVec.ofBool (a i == b i) := rfl

theorem hit_at (c : Dev nD) (x : S512x1024.Idx → EReal) (lab : IVec S512 32) (w : S1024x8192.Idx → EReal) (j : Fin 8) (t : Fin 512)
    (h : (lab (ix1 t)).toNat < 65536) (q : Fin 1024) :
    select
      (cmpi .eq (iota .tc S512x1024 32 [1] iota_S512x1024_d1_w32)
        (broadcastTo S512x1024
          (shapeCast S512x1
            (subi (subi lab (broadcast S512 (Scalar.muli (idw c) 8192#32))) (broadcast S512 (BitVec.ofNat 32 (1024 * j.val))))
            shapeCasts_S512_S512x1)
          broadcasts_S512x1_S512x1024))
      (logits (F := Ideal) x (chunkVal (F := Ideal) w j)) (broadcast S512x1024 (Scalar.ofBits (F := Ideal) .f32 0x00000000#32))
      (reduces_S512x1024_S512.lift (ix1 t) q)
      = if col c j q = ⟨(lab (ix1 t)).toNat, h⟩ then dlogit x w t (lcol j q) else 0 := by
  rw [lift_row, select_apply, logits_at, words_at, iota_single_apply,
    broadcastTo_apply _ broadcasts_S512x1_S512x1024 (ix2 t q) (ix2 t (0 : Fin 1)) (fun a => by
      match a with
      | ⟨0, _⟩ => rfl
      | ⟨1, _⟩ => rfl),
    shapeCast_a_a1_apply]
  show Scalar.select (BitVec.ofBool (BitVec.ofNat 32 q.val == lab (ix1 t) - idw c * 8192#32 - BitVec.ofNat 32 (1024 * j.val))) _
    (Ideal.ofBits .f32 0x00000000#32) = _
  rw [idw_ofNat, word_hit _ h, Ideal.ofBits_zero_f32]
  by_cases e : col c j q = ⟨(lab (ix1 t)).toNat, h⟩
  · rw [if_pos e, decide_eq_true e]; rfl
  · rw [if_neg e, decide_eq_false e]; rfl

theorem hitSum_at (c : Dev nD) (x : S512x1024.Idx → EReal) (lab : IVec S512 32) (w : S1024x8192.Idx → EReal) (j : Fin 8) (t : Fin 512)
    (h : (lab (ix1 t)).toNat < 65536) :
    hitSum (F := Ideal) (idw c) x lab j (chunkVal (F := Ideal) w j) (ix1 t)
      = ∑ q : Fin 1024, if col c j q = ⟨(lab (ix1 t)).toNat, h⟩ then dlogit x w t (lcol j q) else 0 := by
  unfold hitSum
  exact (Ideal.multiReduction_add_single _ _ _ _ _ _).trans (Finset.sum_congr rfl fun q _ => hit_at c x lab w j t h q)

/-- The two sums of a device, row by row. -/
theorem total_fst (c : Dev nD) (x : S512x1024.Idx → EReal) (lab : IVec S512 32) (w : S1024x8192.Idx → EReal) (t : Fin 512) :
    (total (F := Ideal) c x lab w).1 (ix1 t) = ∑ j : Fin 8, ∑ q : Fin 1024, Ideal.exp (dlogit x w t (lcol j q)) := by
  rw [Fin.sum_univ_eight]
  simp only [← expSum_at]
  rfl

theorem total_snd (c : Dev nD) (x : S512x1024.Idx → EReal) (lab : IVec S512 32) (w : S1024x8192.Idx → EReal) (t : Fin 512)
    (h : (lab (ix1 t)).toNat < 65536) :
    (total (F := Ideal) c x lab w).2 (ix1 t)
      = ∑ j : Fin 8, ∑ q : Fin 1024, if col c j q = ⟨(lab (ix1 t)).toNat, h⟩ then dlogit x w t (lcol j q) else 0 := by
  rw [Fin.sum_univ_eight]
  simp only [← hitSum_at c x lab w _ t h]
  rfl

end Cert.Run

end
-- ==== Proof.Result.lean ====
/-
What the result's array holds at the end, read at an index over the ideal values: the logarithm of the sum over the
devices of their first sums, less the sum of their second sums; and so, when the devices hold the blocks of one `W`,
the loss of every row.
-/
module

public import proofs.«01_k».proof.Proof.BlockValue
public import proofs.«01_k».proof.Proof.Launch
public import Idealize.ShloMosaic.Lib.Layout
public import Idealize.ShloMosaic.Lib.Pipeline.ValueKit.Geometry

@[expose] public section

noncomputable section

namespace Cert.Run

open Cert.KernelIdeal Cert.KernelIdeal.Gen
open Idealize.ShloMosaic Idealize.ShloMosaic.TcCoe
open Idealize.ShloMosaic.ValueIdx

/-! ## A device's pair, and the result out of the pairs -/

theorem pair_at (a b : S512.Idx → EReal) (t : Fin 512) :
    pair (F := Ideal) a b (ix3 (0 : Fin 1) (0 : Fin 2) t) = a (ix1 t) ∧ pair (F := Ideal) a b (ix3 (0 : Fin 1) (1 : Fin 2) t) = b (ix1 t) := by
  unfold pair
  rw [shapeCast_self, shapeCast_ab_1ab_apply, shapeCast_ab_1ab_apply]
  constructor
  · rw [concatenate_pair_apply_left (s₁ := S1x512) (s₂ := S1x512) (0 : Fin 2) _ _ concatenates_S1x512_S1x512_S2x512_d0 (ix2 (0 : Fin 2) t) rfl (ix2 (0 : Fin 1) t)
      (fun e => by
        match e with
        | ⟨0, _⟩ => rfl
        | ⟨1, _⟩ => rfl)]
    exact shapeCast_a_1a_apply _ _ _ _
  · rw [concatenate_pair_apply_right (s₁ := S1x512) (s₂ := S1x512) (0 : Fin 2) _ _ concatenates_S1x512_S1x512_S2x512_d0 (ix2 (1 : Fin 2) t) rfl rfl (ix2 (0 : Fin 1) t)
      (fun e he => by
        match e with
        | ⟨0, _⟩ => exact absurd rfl he
        | ⟨1, _⟩ => rfl)
      rfl]
    exact shapeCast_a_1a_apply _ _ _ _

theorem chosen_eq (c : Dev nD) (v : Fin 8 → S1x2x512.Idx → EReal) :
    k0_pay32 (F := Ideal) (idw c) (gatheredPairs (F := Ideal) v) (v c) = gatheredPairs (F := Ideal) v := by
  funext i
  rw [chosen_at]
  split
  · next h => rw [show c = (show Fin 8 from i 0) from Fin.ext h.symm]; rfl
  · rfl

theorem row_of (f : S8x2x512.Idx → EReal) (o : Fin 2) (h : S8x2x512.Slices ![0, o.val, 0] S8x1x512) (s : Fin 8) (t : Fin 512) :
    shapeCast S8x512 (extractStridedSlice S8x1x512 ![0, o.val, 0] f h) shapeCasts_S8x1x512_S8x512 (ix2 s t) = f (ix3 s o t) := by
  rw [shapeCast_apply _ shapeCasts_S8x1x512_S8x512 (ix2 s t) (ix3 s (0 : Fin 1) t) (by
    rw [Shape.rowMajor_val_three, Shape.rowMajor_val_two]
    show (s.val * 1 + 0) * 512 + t.val = s.val * 512 + t.val
    omega)]
  exact slice3_axis1_apply o.val f h s (0 : Fin 1) t o rfl

theorem lift_dev (t : Fin 512) (s : Fin 8) : reduces_S8x512_S512.lift (ix1 t) s = ix2 s t := by
  funext a
  match a with
  | ⟨0, _⟩ => exact Fin.ext rfl
  | ⟨1, _⟩ => exact Fin.ext rfl

theorem sum_devs (g : S8x512.Idx → EReal) (t : Fin 512) :
    multiReduction (F := Ideal) (φ := .f32) .add [0] S512 g 0x00000000#32 reduces_S8x512_S512 (.inl rfl) rfl (ix1 t) = ∑ s : Fin 8, g (ix2 s t) :=
  (Ideal.multiReduction_add_single _ _ _ _ _ _).trans (Finset.sum_congr rfl fun s _ => congrArg g (lift_dev t s))

theorem final_at (c : Dev nD) (v : Fin 8 → S1x2x512.Idx → EReal) (t : Fin 512) :
    final (F := Ideal) c (gatheredPairs (F := Ideal) v) (v c) (ix2 (0 : Fin 1) t)
      = Ideal.log (∑ s : Fin 8, v s (ix3 (0 : Fin 1) (0 : Fin 2) t)) - ∑ s : Fin 8, v s (ix3 (0 : Fin 1) (1 : Fin 2) t) := by
  unfold final k0_pay1 k0_pay33 k0_pay34
  rw [chosen_eq]
  show shapeCast S1x512 _ shapeCasts_S512_S1x512 (ix2 (0 : Fin 1) t) = _
  rw [shapeCast_a_1a_apply, subf_apply, sum_devs]
  show Ideal.log (multiReduction (F := Ideal) (φ := .f32) .add [0] S512 _ 0x00000000#32 reduces_S8x512_S512 (.inl rfl) rfl (ix1 t)) - _ = _
  rw [sum_devs]
  congr 1
  · exact congrArg Ideal.log (Finset.sum_congr rfl fun s _ => row_of _ (0 : Fin 2) slices_S8x2x512_o0_0_0_S8x1x512 s t)
  · exact Finset.sum_congr rfl fun s _ => row_of _ (1 : Fin 2) slices_S8x2x512_o0_1_0_S8x1x512 s t

/-! ## The staged arguments and the result's array -/

section Arrays

variable (m : (ℓ : Loc nD τ sig) → Buf (Elt Ideal) ℓ)

theorem xstg_eq (c : Dev nD) : xstg m c = m ((c : Thread nD τ).loc main_arg0) := by
  funext i
  show m ((c : Thread nD τ).loc main_arg0) ((win0_0.rect (0 : Fin 1)).emb i) = _
  congr 1
  funext a
  match a with
  | ⟨0, _⟩ => exact Fin.ext (by show 0 + 1 * (i 0).val = (i 0).val; omega)
  | ⟨1, _⟩ => exact Fin.ext (by show 0 + 1 * (i 1).val = (i 1).val; omega)

theorem labstg_eq (c : Dev nD) : labstg m c = m ((c : Thread nD τ).loc main_arg2) := by
  funext i
  show m ((c : Thread nD τ).loc main_arg2) ((win0_1.rect (0 : Fin 1)).emb i) = _
  congr 1
  funext a
  match a with
  | ⟨0, _⟩ => exact Fin.ext (by show 0 + 1 * (i 0).val = (i 0).val; omega)
  | ⟨1, _⟩ => exact Fin.ext (by show 0 + 1 * (i 1).val = (i 1).val; omega)

theorem out_whole : Pipeline.Window.WholeAt win0_2 (0 : Fin 1) :=
  ⟨by decide +kernel, fun t _ => Subsingleton.elim (α := Fin 1) _ _, fun a => ⟨rfl, rfl⟩⟩

theorem finalA_out (c : Dev nD) : finalA m c (2 : Fin 3) = outAt m c := by
  refine (dats m 0 c).arrAt_eq_of_after_last (2 : Fin 3) (0 : Fin 1) out_whole _ fun j => ?_
  rfl

/-! ## The loss -/

/-- A logit over all the columns. -/
def flogit (x : S512x1024.Idx → EReal) (w : (⟨2, ![1024, 65536]⟩ : Shape).Idx → EReal) (t : Fin 512) (v : Fin 65536) : EReal :=
  ∑ k : Fin 1024, x (ix2 t k) * w (ix2 k v)

theorem dlogit_block (x : S512x1024.Idx → EReal) (w : (⟨2, ![1024, 65536]⟩ : Shape).Idx → EReal) (c j : Fin 8) (t : Fin 512) (q : Fin 1024) :
    dlogit x (Layout.block ⟨2, ![1024, 8192]⟩ ⟨2, ![1024, 65536]⟩ 1 8 c w) t (lcol j q) = flogit x w t (col c j q) := by
  unfold dlogit flogit
  refine Finset.sum_congr rfl fun k _ => congrArg _ ?_
  rw [Layout.block_apply]
  congr 1
  funext a
  match a with
  | ⟨0, _⟩ => rfl
  | ⟨1, _⟩ => exact Fin.ext (by show c.val * 8192 + (1024 * j.val + q.val) = 8192 * c.val + (1024 * j.val + q.val); omega)

/-- Every device ends with the loss of every row, when it holds `x`, its block of `W` and the labels, these in range. -/
theorem outAt_at (x : S512x1024.Idx → EReal) (w : (⟨2, ![1024, 65536]⟩ : Shape).Idx → EReal) (lab : IVec S1x512 32)
    (hx : ∀ c : Dev nD, m ((c : Thread nD τ).loc main_arg0) = x)
    (hw : ∀ c : Dev nD, m ((c : Thread nD τ).loc main_arg1) = Layout.block ⟨2, ![1024, 8192]⟩ ⟨2, ![1024, 65536]⟩ 1 8 c w)
    (hl : ∀ c : Dev nD, m ((c : Thread nD τ).loc main_arg2) = lab) (hr : ∀ t : Fin 512, (lab (ix2 (0 : Fin 1) t)).toNat < 65536)
    (c : Dev nD) (t : Fin 512) :
    outAt m c (ix2 (0 : Fin 1) t) = loss (flogit x w) (fun t => ⟨(lab (ix2 (0 : Fin 1) t)).toNat, hr t⟩) t := by
  have hown : ∀ s : Dev nD, ownV m s = ownPair (F := Ideal) s x (shapeCast S512 lab shapeCasts_S1x512_S512)
      (Layout.block ⟨2, ![1024, 8192]⟩ ⟨2, ![1024, 65536]⟩ 1 8 s w) := by
    intro s
    unfold ownV wArr
    rw [xstg_eq, labstg_eq, hx, hl, hw]
    show ownPair (F := Ideal) s (shapeCast S512x1024 x shapeCasts_S512x1024_S512x1024) _ _ = _
    rw [shapeCast_self]
    rfl
  have hlab : shapeCast S512 lab shapeCasts_S1x512_S512 (ix1 t) = lab (ix2 (0 : Fin 1) t) := shapeCast_1a_a_apply _ _ _
  have hlt : (shapeCast S512 lab shapeCasts_S1x512_S512 (ix1 t)).toNat < 65536 := by rw [hlab]; exact hr t
  refine (final_at c (ownV m) t).trans ?_
  unfold loss
  refine congrArg₂ (fun a b : EReal => a - b) ?_ ?_
  · refine congrArg Ideal.log ?_
    rw [← sum_cols fun v => Ideal.exp (flogit x w t v)]
    refine Finset.sum_congr rfl fun s _ => ?_
    rw [hown s]
    unfold ownPair
    rw [(pair_at _ _ t).1, total_fst]
    simp only [dlogit_block]
  · rw [← sum_cols_single (flogit x w t)]
    refine Finset.sum_congr rfl fun s _ => ?_
    rw [hown s]
    unfold ownPair
    rw [(pair_at _ _ t).2, total_snd s _ _ _ t hlt]
    simp only [dlogit_block, hlab]

end Arrays

end Cert.Run

end
-- ==== Proof.Reference.lean ====
/-
What the reference computes, read at an index over the ideal values: the loss of every row, when the entries of `x` and
`W` are real numbers and the labels are columns.
-/
module

public import proofs.«01_k».proof.Proof.Gen.ReferenceIdeal.Run
public import proofs.«01_k».proof.Proof.Equation
public import Idealize.ShloMosaic.Lib.MatmulPlain
public import Idealize.ShloMosaic.Lib.StackMember
public import Idealize.ShloMosaic.Lib.KernelVsHost
public import Idealize.ShloMosaic.Lib.IdealHost
public import Idealize.ShloMosaic.Lib.ValueIdx
public import Idealize.ShloMosaic.Lib.ValueLayout
public import Idealize.ShloMosaic.Lib.ValueLayoutCasts

@[expose] public section

noncomputable section

namespace Cert.Run.Ref

open Cert.ReferenceIdeal Cert.ReferenceIdeal.Gen Cert.Run
open Idealize.ShloMosaic Idealize.ShloMosaic.TcCoe
open Idealize.ShloMosaic.ValueIdx

/-! ## The logits, their maximum, and the sum of the shifted exponentials -/

/-- A logit. -/
def rlogit (x : S512x1024.Idx → EReal) (w : S1024x65536.Idx → EReal) (t : Fin 512) (v : Fin 65536) : EReal :=
  ∑ k : Fin 1024, x (ix2 t k) * w (ix2 k v)

/-- All the logits, as the reference spells them. -/
def rL (x : S512x1024.Idx → EReal) (w : S1024x65536.Idx → EReal) : S512x65536.Idx → EReal :=
  Host.dotGeneral (F := Ideal) (φ₁ := .f32) (φ₂ := .f32) dot_S512x1024_S1024x65536_S512x65536_1_0_0_1_n_n none x w
/-- The row's largest logit, as the reference spells it. -/
def rM (L : S512x65536.Idx → EReal) : S512.Idx → EReal :=
  Host.reduce (FloatOps.maximumf (F := Ideal) (φ := .f32)) L (constant (F := Ideal) S_ .f32 0xFF800000#32) reducesTo_S512x65536_S512_d1 h_S_

theorem rL_at (x : S512x1024.Idx → EReal) (w : S1024x65536.Idx → EReal) (t : Fin 512) (v : Fin 65536) :
    rL x w (ix2 t v) = rlogit x w t v := by
  have h := Ideal.matmul_plain_apply (M := 512) (K := 1024) (N := 65536) (φ₁ := .f32) (φ₂ := .f32) none x w
    (constant ⟨2, ![512, 65536]⟩ .f32 0x00000000#32) t v
  rw [constant_apply, Ideal.ofBits_zero_f32, zero_add, Ideal.matmul_constant_zero_apply] at h
  unfold rL rlogit
  simp only [Host.dotGeneral]
  rw [Ideal.dotGeneral_apply]
  exact h

theorem reduces_cols : Shape.Reduces S512x65536 [1] S512 := by decide

theorem lift_col (t : Fin 512) (v : Fin 65536) : reduces_cols.lift (ix1 t) v = ix2 t v := by
  funext a
  match a with
  | ⟨0, _⟩ => exact Fin.ext rfl
  | ⟨1, _⟩ => exact Fin.ext rfl

theorem ninf : Ideal.ofBits .f32 0xFF800000#32 = ⊥ := by simp [Ideal.ofBits, Ideal.ieee]

theorem rM_fold (L : S512x65536.Idx → EReal) (t : Fin 512) :
    rM L (ix1 t) = (Finset.univ : Finset (Fin 65536)).fold max (Ideal.ofBits .f32 0xFF800000#32) (fun v => L (ix2 t v)) := by
  have e : rM L = multiReduction (F := Ideal) (φ := .f32) .maximumf [(1 : Fin S512x65536.rank)] S512 L 0xFF800000#32 reduces_cols (.inl rfl) rfl :=
    hostReduce_maximumf_eq_multiReduction (F := Ideal) (φ := .f32) L 0xFF800000#32 reducesTo_S512x65536_S512_d1 h_S_ reduces_cols (.inl rfl) rfl
  have e2 := Ideal.multiReduction_maximumf_single (φ := .f32) (a := (1 : Fin S512x65536.rank)) L 0xFF800000#32 reduces_cols (.inl rfl) rfl (ix1 t)
  have e3 : L ∘ reduces_cols.lift (ix1 t) = fun v : Fin 65536 => L (ix2 t v) := funext fun v => congrArg L (lift_col t v)
  rw [e]
  refine Eq.trans e2 ?_
  exact congrArg ((Finset.univ : Finset (Fin 65536)).fold max (Ideal.ofBits .f32 0xFF800000#32)) e3

theorem rM_real (L : S512x65536.Idx → EReal) (h : ∀ i, IsReal (L i)) (t : Fin 512) : IsReal (rM L (ix1 t)) := by
  rw [rM_fold, ninf]
  exact fold_max_real' (ι := Fin 65536) 0 _ fun v => h _

theorem sum_row (E : S512x65536.Idx → EReal) (t : Fin 512) :
    Host.reduceAdd (F := Ideal) (φ := .f32) E (constant (F := Ideal) S_ .f32 0x00000000#32) reducesTo_S512x65536_S512_d1 h_S_ (ix1 t)
      = ∑ v : Fin 65536, E (ix2 t v) := by
  rw [hostReduceAdd_apply, Ideal.hostReduceAdd_single _ reduces_cols, constant_apply, Ideal.ofBits_zero_f32, zero_add]
  exact Finset.sum_congr rfl fun v _ => congrArg E (lift_col t v)

theorem bc_one {α : Type} (y : S512.Idx → α) (t : Fin 512) (u : Fin 1) : broadcastInDim S512x1 ![0] bcast_S512_S512x1_0 y (ix2 t u) = y (ix1 t) :=
  broadcastInDim_apply _ _ _ _ _ (fun a => by
    match a with
    | ⟨0, _⟩ => rfl)
theorem bc_row {α : Type} (y : S512x1.Idx → α) (t : Fin 512) (v : Fin 65536) :
    broadcastInDim S512x65536 ![0, 1] bcast_S512x1_S512x65536_0_1 y (ix2 t v) = y (ix2 t (0 : Fin 1)) :=
  broadcastInDim_apply _ _ _ _ _ (fun a => by
    match a with
    | ⟨0, _⟩ => rfl
    | ⟨1, _⟩ => rfl)

/-! ## The logit read at the label -/

/-- A position among the rows, or a label among the columns, brought into range by adding the extent when negative. -/
def wrap (n : BitVec 32) (y : S512.Idx → BitVec 32) : S512.Idx → BitVec 32 :=
  select (cmpi .slt y (broadcastInDim S512 ![] bcast_S_S512 (constantI S_ 32 0#32)))
    (addi y (broadcastInDim S512 ![] bcast_S_S512 (constantI S_ 32 n))) y

theorem wrap_at (n : BitVec 32) (y : S512.Idx → BitVec 32) (t : Fin 512) (h : (y (ix1 t)).toNat < 65536) : wrap n y (ix1 t) = y (ix1 t) := by
  show Scalar.select (BitVec.ofBool ((y (ix1 t)).slt 0#32)) _ _ = _
  have e : (y (ix1 t)).slt 0#32 = false := by
    rw [BitVec.slt_eq_decide, decide_eq_false_iff_not, BitVec.toInt_eq_toNat_of_lt (by omega)]
    simp
  rw [e]; rfl

/-- The start indices: the row and its label. -/
def starts2 (y : S512.Idx → BitVec 32) : IVec S512x2 32 :=
  concatenate S512x2 1 [⟨S512x1, broadcastInDim S512x1 ![0] bcast_S512_S512x1_0 (wrap 512#32 (iotaInDim S512 32 0))⟩,
    ⟨S512x1, broadcastInDim S512x1 ![0] bcast_S512_S512x1_0 (wrap 65536#32 y)⟩] concatenates_S512x1_S512x1_S512x2_d1

theorem starts2_row (y : S512.Idx → BitVec 32) (t : Fin 512) : starts2 y (ix2 t (0 : Fin 2)) = BitVec.ofNat 32 t.val := by
  unfold starts2
  rw [concatenate_pair_apply_left (s₁ := S512x1) (s₂ := S512x1) (1 : Fin 2) _ _ concatenates_S512x1_S512x1_S512x2_d1 (ix2 t (0 : Fin 2)) rfl
    (ix2 t (0 : Fin 1)) (fun e => by
      match e with
      | ⟨0, _⟩ => rfl
      | ⟨1, _⟩ => rfl), bc_one, wrap_at _ _ _ (by
      show (BitVec.ofNat 32 t.val).toNat < 65536
      rw [BitVec.toNat_ofNat]; omega)]
  rfl

theorem starts2_label (y : S512.Idx → BitVec 32) (t : Fin 512) (h : (y (ix1 t)).toNat < 65536) : starts2 y (ix2 t (1 : Fin 2)) = y (ix1 t) := by
  unfold starts2
  rw [concatenate_pair_apply_right (s₁ := S512x1) (s₂ := S512x1) (1 : Fin 2) _ _ concatenates_S512x1_S512x1_S512x2_d1 (ix2 t (1 : Fin 2)) rfl rfl
    (ix2 t (0 : Fin 1)) (fun e he => by
      match e with
      | ⟨0, _⟩ => rfl
      | ⟨1, _⟩ => exact absurd rfl he) rfl, bc_one, wrap_at _ _ _ h]

theorem gather_at (L : S512x65536.Idx → EReal) (y : S512.Idx → BitVec 32) (t : Fin 512) (h : (y (ix1 t)).toNat < 65536) :
    Host.gather gather_S512x65536_S512x2_S512_n_01_n_n_01_1_11 L (starts2 y) (ix1 t) = L (ix2 t ⟨(y (ix1 t)).toNat, h⟩) := by
  unfold Host.gather
  congr 1
  have hmem : ∀ a : Fin 2, a ∈ ([0, 1] : List (Fin 2)) := by decide
  funext a
  refine Fin.ext ?_
  show GatherDims.start _ _ _ a + GatherDims.batchCoord _ _ a + GatherDims.offCoord _ _ a = _
  rw [GatherDims.batchCoord_eq_zero _ _ _ List.not_mem_nil,
    GatherDims.offCoord_eq_zero _ _ _ (fun e => ((GatherDims.mem_sKept _ _).mp e).1 (hmem a))]
  simp only [Nat.add_zero]
  unfold GatherDims.start
  rw [dif_pos (show a ∈ gather_S512x65536_S512x2_S512_n_01_n_n_01_1_11.startIndexMap from hmem a)]
  match a with
  | ⟨0, _⟩ =>
    refine (congrArg (fun i => min (starts2 y i).toInt.toNat 511) (show _ = ix2 t (0 : Fin 2) from ?_)).trans ?_
    · funext b; refine Fin.ext ?_
      match b with
      | ⟨0, _⟩ => rfl
      | ⟨1, _⟩ => rfl
    · show min (starts2 y (ix2 t (0 : Fin 2))).toInt.toNat 511 = t.val
      rw [starts2_row, BitVec.toInt_eq_toNat_of_lt (by rw [BitVec.toNat_ofNat]; omega), BitVec.toNat_ofNat]
      omega
  | ⟨1, _⟩ =>
    refine (congrArg (fun i => min (starts2 y i).toInt.toNat 65535) (show _ = ix2 t (1 : Fin 2) from ?_)).trans ?_
    · funext b; refine Fin.ext ?_
      match b with
      | ⟨0, _⟩ => rfl
      | ⟨1, _⟩ => rfl
    · show min (starts2 y (ix2 t (1 : Fin 2))).toInt.toNat 65535 = (y (ix1 t)).toNat
      rw [starts2_label y t h, BitVec.toInt_eq_toNat_of_lt (by omega)]
      omega

/-! ## The result -/

/-- The reference's result, as it is spelled. -/
def result (x : S512x1024.Idx → EReal) (w : S1024x65536.Idx → EReal) (lab : IVec S1x512 32) : S1x512.Idx → EReal :=
  shapeCast S1x512
    (subf (F := Ideal) (φ := .f32)
      (shapeCast S512
        (addf (F := Ideal) (φ := .f32) (broadcastInDim S512x1 ![0] bcast_S512_S512x1_0 (rM (rL x w)))
          (Host.log (F := Ideal) (φ := .f32) (broadcastInDim S512x1 ![0] bcast_S512_S512x1_0
            (Host.reduceAdd (F := Ideal) (φ := .f32)
              (Host.exp (F := Ideal) (φ := .f32) (subf (F := Ideal) (φ := .f32) (rL x w)
                (broadcastInDim S512x65536 ![0, 1] bcast_S512x1_S512x65536_0_1 (broadcastInDim S512x1 ![0] bcast_S512_S512x1_0 (rM (rL x w))))))
              (constant (F := Ideal) S_ .f32 0x00000000#32) reducesTo_S512x65536_S512_d1 h_S_))))
        shapeCasts_S512x1_S512)
      (Host.gather gather_S512x65536_S512x2_S512_n_01_n_n_01_1_11 (rL x w) (starts2 (shapeCast S512 lab shapeCasts_S1x512_S512))))
    shapeCasts_S512_S1x512

theorem log_at (v : S512x1.Idx → EReal) (i : S512x1.Idx) : Host.log (F := Ideal) (φ := .f32) v i = Ideal.log (v i) := rfl
theorem exp_at (v : S512x65536.Idx → EReal) (i : S512x65536.Idx) : Host.exp (F := Ideal) (φ := .f32) v i = Ideal.exp (v i) := rfl

theorem result_at (x : S512x1024.Idx → EReal) (w : S1024x65536.Idx → EReal) (lab : IVec S1x512 32)
    (hx : ∀ i, IsReal (x i)) (hw : ∀ i, IsReal (w i)) (hr : ∀ t : Fin 512, (lab (ix2 (0 : Fin 1) t)).toNat < 65536) (t : Fin 512) :
    result x w lab (ix2 (0 : Fin 1) t) = loss (rlogit x w) (fun t => ⟨(lab (ix2 (0 : Fin 1) t)).toNat, hr t⟩) t := by
  have hL : ∀ t v, IsReal (rlogit x w t v) := fun t v => IsReal.sum _ fun k => (hx _).mul (hw _)
  have hL' : ∀ i, IsReal (rL x w i) := fun i => by rw [eq_ix2 i]; exact (rL_at x w (i 0) (i 1)) ▸ hL (i 0) (i 1)
  have hlab : shapeCast S512 lab shapeCasts_S1x512_S512 (ix1 t) = lab (ix2 (0 : Fin 1) t) := shapeCast_1a_a_apply _ _ _
  have hlt : (shapeCast S512 lab shapeCasts_S1x512_S512 (ix1 t)).toNat < 65536 := by rw [hlab]; exact hr t
  unfold result
  rw [shapeCast_a_1a_apply, subf_apply, gather_at _ _ _ hlt, rL_at,
    shapeCast_apply _ shapeCasts_S512x1_S512 (ix1 t) (ix2 t (0 : Fin 1)) (by
      rw [Shape.rowMajor_val_two, Shape.rowMajor_val_one]
      show t.val * 1 + 0 = t.val
      omega), addf_apply, bc_one, log_at, bc_one, sum_row]
  unfold loss
  refine congrArg₂ (fun a b : EReal => a - b) ?_ ?_
  · refine Eq.trans (congrArg (fun s => rM (rL x w) (ix1 t) + Ideal.log s) (Finset.sum_congr rfl fun v _ => ?_))
      (lse_shift (0 : Fin 65536) (fun v => rlogit x w t v) (hL t) _ (rM_real _ hL' t))
    rw [exp_at, subf_apply, bc_row, bc_one, rL_at]
  · refine congrArg (rlogit x w t) (Fin.ext ?_)
    show (shapeCast S512 lab shapeCasts_S1x512_S512 (ix1 t)).toNat = _
    rw [hlab]

end Cert.Run.Ref

end
-- ==== Proof.Domain.lean ====
/-
What the precondition says of a device's arrays: the entries of `x` and of its block of `W` are real numbers, and every
label is a column.
-/
module

public import proofs.«01_k».proof.Proof.Gen.Pre_in_domain_KernelIdeal
public import proofs.«01_k».proof.Proof.Equation
public import Idealize.ShloMosaic.Lib.ReduceAll
public import Idealize.ShloMosaic.Lib.ValueIdx

@[expose] public section

noncomputable section

namespace Cert.Run

open Idealize.ShloMosaic Idealize.ShloMosaic.ValueIdx
open Cert.Pre_in_domain_KernelIdeal Cert.Pre_in_domain_KernelIdeal.Gen

theorem bit_one {b : Bool} (h : BitVec.ofBool b = 1#1) : b = true := by cases b with
  | false => exact absurd h (by decide)
  | true => rfl

theorem pinf : Ideal.ofBits .f32 0x7F800000#32 = ⊤ := by simp [Ideal.ofBits, Ideal.ieee]

/-- A value whose size is below infinity is a real number. -/
theorem real_of_abs_lt (a : EReal) (h : BitVec.ofBool (decide (max a (-a) < Ideal.ofBits .f32 0x7F800000#32)) = 1#1) : IsReal a := by
  have h' : max a (-a) < ⊤ := by rw [← pinf]; exact of_decide_eq_true (bit_one h)
  induction a using EReal.rec with
  | bot => simp at h'
  | top => simp at h'
  | coe r => exact ⟨r, rfl⟩

/-- A word at least zero and below 65536, both read signed, is below 65536. -/
theorem word_range (a : BitVec 32) (h0 : BitVec.ofBool ((0#32).sle a) = 1#1) (h1 : BitVec.ofBool (a.slt 65536#32) = 1#1) : a.toNat < 65536 := by
  have e0 := bit_one h0
  have e1 := bit_one h1
  rw [BitVec.sle_eq_decide, decide_eq_true_eq] at e0
  rw [BitVec.slt_eq_decide, decide_eq_true_eq] at e1
  rw [show (0#32 : BitVec 32).toInt = 0 from rfl] at e0
  rw [show (65536#32 : BitVec 32).toInt = 65536 from rfl] at e1
  rw [BitVec.toInt_eq_toNat_cond] at e0 e1
  split at e0 <;> omega

theorem domain_facts (x : S512x1024.Idx → EReal) (w : S1024x8192.Idx → EReal) (lab : IVec S1x512 32)
    (h : Cert.Pre_in_domain_KernelIdeal.fn (F := Ideal) x w lab = fun _ => 1#1) :
    (∀ i, IsReal (x i)) ∧ (∀ i, IsReal (w i)) ∧ ∀ i, (lab i).toNat < 65536 := by
  have hs : Subsingleton S_.Idx := ⟨fun a b => funext fun k => k.elim0⟩
  have h0 := congrFun h (Shape.Idx.first h_S_)
  obtain ⟨h1, hl⟩ := IntOp.andi_eq_one.1 h0
  obtain ⟨hx, hw⟩ := IntOp.andi_eq_one.1 h1
  refine ⟨fun i => real_of_abs_lt _ (Host.reduce_andi_all _ _ _ _ _ hx i), fun i => real_of_abs_lt _ (Host.reduce_andi_all _ _ _ _ _ hw i),
    fun i => ?_⟩
  obtain ⟨a, b⟩ := IntOp.andi_eq_one.1 (Host.reduce_andi_all _ _ _ _ _ hl i)
  exact word_range _ a b

end Cert.Run

end
-- ==== Proof.Algebraic.lean ====
/-
The equation of the two programs: from one `x`, one `W` cut by columns over the devices, and one row of labels, all as
the precondition asks, every device's result is the reference's result.
-/
module

public import proofs.«01_k».proof.Defs
public import proofs.«01_k».proof.Proof.Result
public import proofs.«01_k».proof.Proof.Reference
public import proofs.«01_k».proof.Proof.Domain

@[expose] public section

noncomputable section

namespace Cert.Run

open Idealize.ShloMosaic Idealize.ShloMosaic.TcCoe Idealize.SL.Sem
open Idealize.ShloMosaic.ValueIdx
open Cert.KernelIdeal Cert.KernelIdeal.Gen

/-- Every entry of the whole `W` lies in some device's block, so it is a real number when theirs are. -/
theorem whole_real (w : (⟨2, ![1024, 65536]⟩ : Shape).Idx → EReal)
    (h : ∀ (c : Fin 8) i, IsReal (Layout.block ⟨2, ![1024, 8192]⟩ ⟨2, ![1024, 65536]⟩ 1 8 c w (by decide) i)) (i) : IsReal (w i) := by
  have hi : (i 1).val < 65536 := (i 1).isLt
  have e := h ⟨(i 1).val / 8192, by omega⟩
    (ix2 (show Fin 1024 from i 0) (⟨(i 1).val % 8192, Nat.mod_lt _ (by decide)⟩ : Fin 8192))
  rw [Layout.block_apply] at e
  refine (congrArg (fun j => IsReal (w j)) ?_).mp e
  funext a
  match a with
  | ⟨0, _⟩ => exact Fin.ext rfl
  | ⟨1, _⟩ => exact Fin.ext (by show (i 1).val / 8192 * 8192 + (i 1).val % 8192 = (i 1).val; omega)

/-- What every device's array ends holding is the reference's result. -/
theorem outAt_result (m : (ℓ : Loc nD τ sig) → Buf (Elt Ideal) ℓ) (x : S512x1024.Idx → EReal) (w : (⟨2, ![1024, 65536]⟩ : Shape).Idx → EReal)
    (lab : IVec S1x512 32) (hx : ∀ c : Dev nD, m ((c : Thread nD τ).loc main_arg0) = x)
    (hw : ∀ c : Dev nD, m ((c : Thread nD τ).loc main_arg1) = Layout.block ⟨2, ![1024, 8192]⟩ ⟨2, ![1024, 65536]⟩ 1 8 c w)
    (hl : ∀ c : Dev nD, m ((c : Thread nD τ).loc main_arg2) = lab)
    (hxr : ∀ i, IsReal (x i)) (hwr : ∀ i, IsReal (w i)) (hr : ∀ t : Fin 512, (lab (ix2 (0 : Fin 1) t)).toNat < 65536) (c : Dev nD) :
    outAt m c = Ref.result x w lab := by
  funext i
  obtain ⟨t, rfl⟩ : ∃ t : Fin 512, i = ix2 (0 : Fin 1) t := ⟨i 1, by
    refine (eq_ix2 i).trans (congrArg (fun a => ix2 a (i 1)) (Subsingleton.elim (α := Fin 1) _ _))⟩
  exact (outAt_at m x w lab hx hw hl hr c t).trans (Ref.result_at x w lab hxr hwr hr t).symm

set_option maxRecDepth 65536 in
theorem algebraic : Cert.algebraic_KernelIdeal_ReferenceIdeal_pre_in_domain_KernelIdeal := by
  intro m g m' g' hpre hargs
  have hx := fun c => (hargs c).1
  have hw := fun c => (hargs c).2.1
  have hl := fun c => (hargs c).2.2
  have hd : ∀ c : Dev nD, _ := fun c => domain_facts _ _ _ (hpre c)
  have hxr : ∀ i, IsReal (m' (((0 : Dev Cert.ReferenceIdeal.nD).tc : Thread Cert.ReferenceIdeal.nD Cert.ReferenceIdeal.τ).loc Cert.ReferenceIdeal.main_arg0) i) :=
    fun i => congrFun (hx 0) i ▸ (hd 0).1 i
  have hwr : ∀ i, IsReal (m' (((0 : Dev Cert.ReferenceIdeal.nD).tc : Thread Cert.ReferenceIdeal.nD Cert.ReferenceIdeal.τ).loc Cert.ReferenceIdeal.main_arg1) i) :=
    whole_real _ fun c i => congrFun (hw c) i ▸ (hd c).2.1 i
  have hr : ∀ t : Fin 512, (m' (((0 : Dev Cert.ReferenceIdeal.nD).tc : Thread Cert.ReferenceIdeal.nD Cert.ReferenceIdeal.τ).loc Cert.ReferenceIdeal.main_arg2) (ix2 (0 : Fin 1) t)).toNat < 65536 :=
    fun t => congrFun (hl 0) (ix2 (0 : Fin 1) t) ▸ (hd 0).2.2 (ix2 (0 : Fin 1) t)
  refine ⟨Ref.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run defs _ _).mono (fun r h c => ⟨?_, ((h.1 c).1 (0 : Fin 3)).trans (finalA_x m c), (h.1 c).2,
      ((h.1 c).1 (1 : Fin 3)).trans (finalA_lab m c)⟩) (run_main m g)
    exact ((h.1 c).1 (2 : Fin 3)).trans ((finalA_out m c).trans (outAt_result m _ _ _ hx hw hl hxr hwr hr c))
  · exact (θ_run Cert.ReferenceIdeal.defs _ _).mono (fun r h => h 0) (Cert.ReferenceIdeal.Value.run (F := Ideal) m' g')

end Cert.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_domain_KernelIdeal
public import proofs.«01_k».proof.Proof.Gen.Pre_in_domain_ReferenceIdeal
public import proofs.«01_k».proof.Proof.Gen.ReferenceIdeal.Run
public import proofs.«01_k».proof.Proof.Launch
public import proofs.«01_k».proof.Proof.Same
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem

/-- The kernel over the extended reals: the run, read at its arguments. -/
theorem frame_kernelIdeal : Cert.quiescent_KernelIdeal := fun m ρ _ => Cert.Run.frame (F := Ideal) m ρ

/-- The reference: host operations alone, and no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_in_domain_KernelIdeal.Gen.facts,
    Cert.Pre_in_domain_ReferenceIdeal.Gen.facts, Cert.Run.frame_kernel, frame_kernelIdeal, fun m ρ _ => frame_kernelIdeal m ρ trivial,
    frame_reference, fun m ρ _ => frame_reference m ρ trivial, trivial, Cert.Run.algebraic⟩

end Cert.Proof

end
